-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_distances_differ [hPre_nearest_distances_differ : Cert.Pre_nearest_distances_differ.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_distances_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_distances_differ [hPre_nearest_distances_differ : Cert.Pre_nearest_distances_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_distances_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_nearest_distances_differ [hKernelIdeal : Cert.KernelIdeal.Facts] [hPre_nearest_distances_differ : Cert.Pre_nearest_distances_differ.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_distances_differ m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_nearest_distances_differ [hReferenceIdeal : Cert.ReferenceIdeal.Facts] [hPre_nearest_distances_differ : Cert.Pre_nearest_distances_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_distances_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_nearest_distances_differ [hKernelIdeal : Cert.KernelIdeal.Facts] [hReferenceIdeal : Cert.ReferenceIdeal.Facts] [hPre_nearest_distances_differ : Cert.Pre_nearest_distances_differ.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_distances_differ m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_nearest_distances_differ : Cert.Pre_nearest_distances_differ.Facts),
    quiescent_Kernel (hKernel := hKernel)
    ∧ quiescent_KernelIdeal (hKernelIdeal := hKernelIdeal)
    ∧ quiescent_KernelIdeal_pre_nearest_distances_differ (hKernelIdeal := hKernelIdeal) (hPre_nearest_distances_differ := hPre_nearest_distances_differ)
    ∧ quiescent_ReferenceIdeal (hReferenceIdeal := hReferenceIdeal)
    ∧ quiescent_ReferenceIdeal_pre_nearest_distances_differ (hReferenceIdeal := hReferenceIdeal) (hPre_nearest_distances_differ := hPre_nearest_distances_differ)
    ∧ preserves_Kernel_KernelIdeal
    ∧ algebraic_KernelIdeal_ReferenceIdeal_pre_nearest_distances_differ (hKernelIdeal := hKernelIdeal) (hReferenceIdeal := hReferenceIdeal) (hPre_nearest_distances_differ := hPre_nearest_distances_differ)
-- ==== Pre_nearest_distances_differ.lean ====
abbrev S8x3x4096 : Shape := ⟨3, ![8, 3, 4096]⟩
abbrev S8x128x4096 : Shape := ⟨3, ![8, 128, 4096]⟩
abbrev S8x3x1024 : Shape := ⟨3, ![8, 3, 1024]⟩
abbrev S8x512x1024 : Shape := ⟨3, ![8, 512, 1024]⟩
abbrev S8x3x256 : Shape := ⟨3, ![8, 3, 256]⟩
abbrev S8x512x256 : Shape := ⟨3, ![8, 512, 256]⟩
abbrev S8x3x64 : Shape := ⟨3, ![8, 3, 64]⟩
abbrev S8x512x64 : Shape := ⟨3, ![8, 512, 64]⟩
abbrev S512x512 : Shape := ⟨2, ![512, 512]⟩
abbrev S512 : Shape := ⟨1, ![512]⟩
abbrev S256x512 : Shape := ⟨2, ![256, 512]⟩
abbrev S256 : Shape := ⟨1, ![256]⟩
abbrev S256x256 : Shape := ⟨2, ![256, 256]⟩
abbrev S_ : Shape := ⟨0, ![]⟩
abbrev S8x256 : Shape := ⟨2, ![8, 256]⟩
abbrev S8x256x1 : Shape := ⟨3, ![8, 256, 1]⟩
abbrev S8x64 : Shape := ⟨2, ![8, 64]⟩
abbrev S8x1x64 : Shape := ⟨3, ![8, 1, 64]⟩
abbrev S8x256x64 : Shape := ⟨3, ![8, 256, 64]⟩
abbrev S8x256x17 : Shape := ⟨3, ![8, 256, 17]⟩
abbrev S8x1024 : Shape := ⟨2, ![8, 1024]⟩
abbrev S8x1024x1 : Shape := ⟨3, ![8, 1024, 1]⟩
abbrev S8x1x256 : Shape := ⟨3, ![8, 1, 256]⟩
abbrev S8x1024x256 : Shape := ⟨3, ![8, 1024, 256]⟩
abbrev S8x1024x17 : Shape := ⟨3, ![8, 1024, 17]⟩
abbrev S8x256x16 : Shape := ⟨3, ![8, 256, 16]⟩
abbrev S8x1024x16 : Shape := ⟨3, ![8, 1024, 16]⟩

class Facts : Prop where
  reducesTo_S8x3x256_S8x256_d1 : S8x3x256.ReducesTo [1] S8x256
  h_S_ : 0 < S_.numel
  bcast_S8x256_S8x256x1_0_1 : S8x256.BroadcastsInDim S8x256x1 (![0, 1] : Fin 2 → Fin S8x256x1.rank)
  reducesTo_S8x3x64_S8x64_d1 : S8x3x64.ReducesTo [1] S8x64
  bcast_S8x64_S8x1x64_0_2 : S8x64.BroadcastsInDim S8x1x64 (![0, 2] : Fin 2 → Fin S8x1x64.rank)
  bcast_S8x256x1_S8x256x64_0_1_2 : S8x256x1.BroadcastsInDim S8x256x64 (![0, 1, 2] : Fin 3 → Fin S8x256x64.rank)
  bcast_S8x1x64_S8x256x64_0_1_2 : S8x1x64.BroadcastsInDim S8x256x64 (![0, 1, 2] : Fin 3 → Fin S8x256x64.rank)
  bcast_S_S8x256x64 : S_.BroadcastsInDim S8x256x64 (![] : Fin 0 → Fin S8x256x64.rank)
  sliceFits_S8x256x64_S8x256x17 : S8x256x64.Slices (fun _ => 0) S8x256x17
  reducesTo_S8x3x1024_S8x1024_d1 : S8x3x1024.ReducesTo [1] S8x1024
  bcast_S8x1024_S8x1024x1_0_1 : S8x1024.BroadcastsInDim S8x1024x1 (![0, 1] : Fin 2 → Fin S8x1024x1.rank)
  bcast_S8x256_S8x1x256_0_2 : S8x256.BroadcastsInDim S8x1x256 (![0, 2] : Fin 2 → Fin S8x1x256.rank)
  bcast_S8x1024x1_S8x1024x256_0_1_2 : S8x1024x1.BroadcastsInDim S8x1024x256 (![0, 1, 2] : Fin 3 → Fin S8x1024x256.rank)
  bcast_S8x1x256_S8x1024x256_0_1_2 : S8x1x256.BroadcastsInDim S8x1024x256 (![0, 1, 2] : Fin 3 → Fin S8x1024x256.rank)
  bcast_S_S8x1024x256 : S_.BroadcastsInDim S8x1024x256 (![] : Fin 0 → Fin S8x1024x256.rank)
  sliceFits_S8x1024x256_S8x1024x17 : S8x1024x256.Slices (fun _ => 0) S8x1024x17
  slices_S8x256x17_S8x256x16_0_0_1 : S8x256x17.Slices ![0, 0, 1] S8x256x16
  slices_S8x256x17_S8x256x16_0_0_0 : S8x256x17.Slices ![0, 0, 0] S8x256x16
  reducesTo_S8x256x16_S_d0_1_2 : S8x256x16.ReducesTo [0, 1, 2] S_
  slices_S8x1024x17_S8x1024x16_0_0_1 : S8x1024x17.Slices ![0, 0, 1] S8x1024x16
  slices_S8x1024x17_S8x1024x16_0_0_0 : S8x1024x17.Slices ![0, 0, 0] S8x1024x16
  reducesTo_S8x1024x16_S_d0_1_2 : S8x1024x16.ReducesTo [0, 1, 2] S_
  dot_S8x3x256_S8x3x64_S8x256x64_1_1_2_2_0_0_wf : DotDims.WF S8x3x256 S8x3x64 S8x256x64 [1] [1] [2] [2] [0] [0]
  dot_S8x3x1024_S8x3x256_S8x1024x256_1_1_2_2_0_0_wf : DotDims.WF S8x3x1024 S8x3x256 S8x1024x256 [1] [1] [2] [2] [0] [0]

variable [Facts]

def dot_S8x3x256_S8x3x64_S8x256x64_1_1_2_2_0_0 : DotDims S8x3x256 S8x3x64 S8x256x64 where
  lhsContracting := [1]
  rhsContracting := [1]
  lhsNonContracting := [2]
  rhsNonContracting := [2]
  lhsBatch := [0]
  rhsBatch := [0]
  wf := dot_S8x3x256_S8x3x64_S8x256x64_1_1_2_2_0_0_wf
def dot_S8x3x1024_S8x3x256_S8x1024x256_1_1_2_2_0_0 : DotDims S8x3x1024 S8x3x256 S8x1024x256 where
  lhsContracting := [1]
  rhsContracting := [1]
  lhsNonContracting := [2]
  rhsNonContracting := [2]
  lhsBatch := [0]
  rhsBatch := [0]
  wf := dot_S8x3x1024_S8x3x256_S8x1024x256_1_1_2_2_0_0_wf
def fn_part2 {F : FTy → Type} [FloatOps F] (main_values_7 : FVec F S8x1024x17 .f32) (main_v34 : IVec S8x256x16 1) (main_c : IVec S_ 1) : IVec S_ 1 :=
  let main_v35 : IVec S_ 1 := (fun x v => Host.reduce IntOp.andi x v reducesTo_S8x256x16_S_d0_1_2 h_S_) main_v34 main_c
  let main_v36 : FVec F S8x1024x16 .f32 := (extractStridedSlice S8x1024x16 ![0, 0, 1] · slices_S8x1024x17_S8x1024x16_0_0_1) main_values_7
  let main_v37 : FVec F S8x1024x16 .f32 := (extractStridedSlice S8x1024x16 ![0, 0, 0] · slices_S8x1024x17_S8x1024x16_0_0_0) main_values_7
  let main_v38 : IVec S8x1024x16 1 := cmpf .olt main_v36 main_v37
  let main_c_9 : IVec S_ 1 := constantI S_ 1 1#1
  let main_v39 : IVec S_ 1 := (fun x v => Host.reduce IntOp.andi x v reducesTo_S8x1024x16_S_d0_1_2 h_S_) main_v38 main_c_9
  let main_v40 : IVec S_ 1 := andi main_v35 main_v39
  main_v40

def fn_part1 {F : FTy → Type} [FloatOps F] (main_arg2 : FVec F S8x3x1024 .f32) (main_arg4 : FVec F S8x3x256 .f32) (main_values : FVec F S8x256x17 .f32) (main_v16 : FVec F S8x3x1024 .f32) (main_cst_3 : FVec F S_ .f32) : IVec S_ 1 :=
  let main_v17 : FVec F S8x1024 .f32 := (fun x v => Host.reduceAdd x v reducesTo_S8x3x1024_S8x1024_d1 h_S_) main_v16 main_cst_3
  let main_v18 : FVec F S8x1024x1 .f32 := broadcastInDim S8x1024x1 ![0, 1] bcast_S8x1024_S8x1024x1_0_1 main_v17
  let main_v19 : FVec F S8x3x256 .f32 := mulf main_arg4 main_arg4
  let main_cst_4 : FVec F S_ .f32 := constant S_ .f32 0x00000000#32
  let main_v20 : FVec F S8x256 .f32 := (fun x v => Host.reduceAdd x v reducesTo_S8x3x256_S8x256_d1 h_S_) main_v19 main_cst_4
  let main_v21 : FVec F S8x1x256 .f32 := broadcastInDim S8x1x256 ![0, 2] bcast_S8x256_S8x1x256_0_2 main_v20
  let main_v22 : FVec F S8x1024x256 .f32 := (fun l r => Host.dotGeneral dot_S8x3x1024_S8x3x256_S8x1024x256_1_1_2_2_0_0 none l r) main_arg2 main_arg4
  let main_v23 : FVec F S8x1024x256 .f32 := broadcastInDim S8x1024x256 ![0, 1, 2] bcast_S8x1024x1_S8x1024x256_0_1_2 main_v18
  let main_v24 : FVec F S8x1024x256 .f32 := broadcastInDim S8x1024x256 ![0, 1, 2] bcast_S8x1x256_S8x1024x256_0_1_2 main_v21
  let main_v25 : FVec F S8x1024x256 .f32 := addf main_v23 main_v24
  let main_cst_5 : FVec F S_ .f32 := constant S_ .f32 0x40000000#32
  let main_v26 : FVec F S8x1024x256 .f32 := broadcastInDim S8x1024x256 ![] bcast_S_S8x1024x256 main_cst_5
  let main_v27 : FVec F S8x1024x256 .f32 := mulf main_v26 main_v22
  let main_v28 : FVec F S8x1024x256 .f32 := subf main_v25 main_v27
  let main_cst_6 : FVec F S_ .f32 := constant S_ .f32 0x00000000#32
  let main_v29 : FVec F S8x1024x256 .f32 := broadcastInDim S8x1024x256 ![] bcast_S_S8x1024x256 main_cst_6
  let main_v30 : FVec F S8x1024x256 .f32 := maximumf main_v28 main_v29
  let main_v31 : FVec F S8x1024x256 .f32 := Host.negf main_v30
  let main_values_7 : FVec F S8x1024x17 .f32 := (fun x => (Host.topK S8x1024x17 2 (FloatOps.cmpfTotal .gt) x sliceFits_S8x1024x256_S8x1024x17).1) main_v31
  let main_indices_8 : IVec S8x1024x17 32 := (fun x => (Host.topK S8x1024x17 2 (FloatOps.cmpfTotal .gt) x sliceFits_S8x1024x256_S8x1024x17).2) main_v31
  let main_v32 : FVec F S8x256x16 .f32 := (extractStridedSlice S8x256x16 ![0, 0, 1] · slices_S8x256x17_S8x256x16_0_0_1) main_values
  let main_v33 : FVec F S8x256x16 .f32 := (extractStridedSlice S8x256x16 ![0, 0, 0] · slices_S8x256x17_S8x256x16_0_0_0) main_values
  let main_v34 : IVec S8x256x16 1 := cmpf .olt main_v32 main_v33
  let main_c : IVec S_ 1 := constantI S_ 1 1#1
  fn_part2 (F := F) main_values_7 main_v34 main_c

def fn {F : FTy → Type} [FloatOps F] (main_arg0 : FVec F S8x3x4096 .f32) (main_arg1 : FVec F S8x128x4096 .f32) (main_arg2 : FVec F S8x3x1024 .f32) (main_arg3 : FVec F S8x512x1024 .f32) (main_arg4 : FVec F S8x3x256 .f32) (main_arg5 : FVec F S8x512x256 .f32) (main_arg6 : FVec F S8x3x64 .f32) (main_arg7 : FVec F S8x512x64 .f32) (main_arg8 : FVec F S512x512 .f32) (main_arg9 : FVec F S512 .f32) (main_arg10 : FVec F S512x512 .f32) (main_arg11 : FVec F S512 .f32) (main_arg12 : FVec F S256x512 .f32) (main_arg13 : FVec F S256 .f32) (main_arg14 : FVec F S256x256 .f32) (main_arg15 : FVec F S256 .f32) : IVec S_ 1 :=
  let main_v0 : FVec F S8x3x256 .f32 := mulf main_arg4 main_arg4
  let main_cst : FVec F S_ .f32 := constant S_ .f32 0x00000000#32
  let main_v1 : FVec F S8x256 .f32 := (fun x v => Host.reduceAdd x v reducesTo_S8x3x256_S8x256_d1 h_S_) main_v0 main_cst
  let main_v2 : FVec F S8x256x1 .f32 := broadcastInDim S8x256x1 ![0, 1] bcast_S8x256_S8x256x1_0_1 main_v1
  let main_v3 : FVec F S8x3x64 .f32 := mulf main_arg6 main_arg6
  let main_cst_0 : FVec F S_ .f32 := constant S_ .f32 0x00000000#32
  let main_v4 : FVec F S8x64 .f32 := (fun x v => Host.reduceAdd x v reducesTo_S8x3x64_S8x64_d1 h_S_) main_v3 main_cst_0
  let main_v5 : FVec F S8x1x64 .f32 := broadcastInDim S8x1x64 ![0, 2] bcast_S8x64_S8x1x64_0_2 main_v4
  let main_v6 : FVec F S8x256x64 .f32 := (fun l r => Host.dotGeneral dot_S8x3x256_S8x3x64_S8x256x64_1_1_2_2_0_0 none l r) main_arg4 main_arg6
  let main_v7 : FVec F S8x256x64 .f32 := broadcastInDim S8x256x64 ![0, 1, 2] bcast_S8x256x1_S8x256x64_0_1_2 main_v2
  let main_v8 : FVec F S8x256x64 .f32 := broadcastInDim S8x256x64 ![0, 1, 2] bcast_S8x1x64_S8x256x64_0_1_2 main_v5
  let main_v9 : FVec F S8x256x64 .f32 := addf main_v7 main_v8
  let main_cst_1 : FVec F S_ .f32 := constant S_ .f32 0x40000000#32
  let main_v10 : FVec F S8x256x64 .f32 := broadcastInDim S8x256x64 ![] bcast_S_S8x256x64 main_cst_1
  let main_v11 : FVec F S8x256x64 .f32 := mulf main_v10 main_v6
  let main_v12 : FVec F S8x256x64 .f32 := subf main_v9 main_v11
  let main_cst_2 : FVec F S_ .f32 := constant S_ .f32 0x00000000#32
  let main_v13 : FVec F S8x256x64 .f32 := broadcastInDim S8x256x64 ![] bcast_S_S8x256x64 main_cst_2
  let main_v14 : FVec F S8x256x64 .f32 := maximumf main_v12 main_v13
  let main_v15 : FVec F S8x256x64 .f32 := Host.negf main_v14
  let main_values : FVec F S8x256x17 .f32 := (fun x => (Host.topK S8x256x17 2 (FloatOps.cmpfTotal .gt) x sliceFits_S8x256x64_S8x256x17).1) main_v15
  let main_indices : IVec S8x256x17 32 := (fun x => (Host.topK S8x256x17 2 (FloatOps.cmpfTotal .gt) x sliceFits_S8x256x64_S8x256x17).2) main_v15
  let main_v16 : FVec F S8x3x1024 .f32 := mulf main_arg2 main_arg2
  let main_cst_3 : FVec F S_ .f32 := constant S_ .f32 0x00000000#32
  fn_part1 (F := F) main_arg2 main_arg4 main_values main_v16 main_cst_3
-- ==== Kernel.lean ====
abbrev S8x3x4096 : Shape := ⟨3, ![8, 3, 4096]⟩
abbrev S8x128x4096 : Shape := ⟨3, ![8, 128, 4096]⟩
abbrev S8x3x1024 : Shape := ⟨3, ![8, 3, 1024]⟩
abbrev S8x512x1024 : Shape := ⟨3, ![8, 512, 1024]⟩
abbrev S8x3x256 : Shape := ⟨3, ![8, 3, 256]⟩
abbrev S8x512x256 : Shape := ⟨3, ![8, 512, 256]⟩
abbrev S8x3x64 : Shape := ⟨3, ![8, 3, 64]⟩
abbrev S8x512x64 : Shape := ⟨3, ![8, 512, 64]⟩
abbrev S512x512 : Shape := ⟨2, ![512, 512]⟩
abbrev S512 : Shape := ⟨1, ![512]⟩
abbrev S256x512 : Shape := ⟨2, ![256, 512]⟩
abbrev S256 : Shape := ⟨1, ![256]⟩
abbrev S256x256 : Shape := ⟨2, ![256, 256]⟩
abbrev S512x1 : Shape := ⟨2, ![512, 1]⟩
abbrev S256x1 : Shape := ⟨2, ![256, 1]⟩
abbrev S8x256x1024 : Shape := ⟨3, ![8, 256, 1024]⟩
abbrev S1x3x1024 : Shape := ⟨3, ![1, 3, 1024]⟩
abbrev S1x512x1024 : Shape := ⟨3, ![1, 512, 1024]⟩
abbrev S1x3x256 : Shape := ⟨3, ![1, 3, 256]⟩
abbrev S1x512x256 : Shape := ⟨3, ![1, 512, 256]⟩
abbrev S1x3x64 : Shape := ⟨3, ![1, 3, 64]⟩
abbrev S1x512x64 : Shape := ⟨3, ![1, 512, 64]⟩
abbrev S1x256x1024 : Shape := ⟨3, ![1, 256, 1024]⟩
abbrev S3x64 : Shape := ⟨2, ![3, 64]⟩
abbrev S3x256 : Shape := ⟨2, ![3, 256]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S3x1024 : Shape := ⟨2, ![3, 1024]⟩
abbrev S1024 : Shape := ⟨1, ![1024]⟩
abbrev S1x1024 : Shape := ⟨2, ![1, 1024]⟩
abbrev S256x1024 : Shape := ⟨2, ![256, 1024]⟩
abbrev S512x64 : Shape := ⟨2, ![512, 64]⟩
abbrev S512x256 : Shape := ⟨2, ![512, 256]⟩
abbrev S512x1024 : Shape := ⟨2, ![512, 1024]⟩

abbrev nBuf : Space → Nat
  | .hbm => 21
  | .vmem => 22
  | .smem => 0
  | _ => 0

abbrev bufTy : (tb : Table) → Fin (tcTables nBuf tb) → BufTy
  | .hbm, ⟨0, _⟩ => ⟨S8x3x4096, .f32⟩
  | .hbm, ⟨1, _⟩ => ⟨S8x128x4096, .f32⟩
  | .hbm, ⟨2, _⟩ => ⟨S8x3x1024, .f32⟩
  | .hbm, ⟨3, _⟩ => ⟨S8x512x1024, .f32⟩
  | .hbm, ⟨4, _⟩ => ⟨S8x3x256, .f32⟩
  | .hbm, ⟨5, _⟩ => ⟨S8x512x256, .f32⟩
  | .hbm, ⟨6, _⟩ => ⟨S8x3x64, .f32⟩
  | .hbm, ⟨7, _⟩ => ⟨S8x512x64, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S256x512, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S512x1, .f32⟩
  | .hbm, ⟨17, _⟩ => ⟨S512x1, .f32⟩
  | .hbm, ⟨18, _⟩ => ⟨S256x1, .f32⟩
  | .hbm, ⟨19, _⟩ => ⟨S256x1, .f32⟩
  | .hbm, ⟨20, _⟩ => ⟨S8x256x1024, .f32⟩
  | .local _ .vmem, ⟨0, _⟩ => ⟨S1x3x1024, .f32⟩
  | .local _ .vmem, ⟨1, _⟩ => ⟨S1x3x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x3x256, .f32⟩
  | .local _ .vmem, ⟨5, _⟩ => ⟨S1x3x256, .f32⟩
  | .local _ .vmem, ⟨6, _⟩ => ⟨S1x512x256, .f32⟩
  | .local _ .vmem, ⟨7, _⟩ => ⟨S1x512x256, .f32⟩
  | .local _ .vmem, ⟨8, _⟩ => ⟨S1x3x64, .f32⟩
  | .local _ .vmem, ⟨9, _⟩ => ⟨S1x3x64, .f32⟩
  | .local _ .vmem, ⟨10, _⟩ => ⟨S1x512x64, .f32⟩
  | .local _ .vmem, ⟨11, _⟩ => ⟨S1x512x64, .f32⟩
  | .local _ .vmem, ⟨12, _⟩ => ⟨S512x512, .f32⟩
  | .local _ .vmem, ⟨13, _⟩ => ⟨S512x1, .f32⟩
  | .local _ .vmem, ⟨14, _⟩ => ⟨S512x512, .f32⟩
  | .local _ .vmem, ⟨15, _⟩ => ⟨S512x1, .f32⟩
  | .local _ .vmem, ⟨16, _⟩ => ⟨S256x512, .f32⟩
  | .local _ .vmem, ⟨17, _⟩ => ⟨S256x1, .f32⟩
  | .local _ .vmem, ⟨18, _⟩ => ⟨S256x256, .f32⟩
  | .local _ .vmem, ⟨19, _⟩ => ⟨S256x1, .f32⟩
  | .local _ .vmem, ⟨20, _⟩ => ⟨S1x256x1024, .f32⟩
  | .local _ .vmem, ⟨21, _⟩ => ⟨S1x256x1024, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x3x4096 : Shape := ⟨3, ![8, 3, 4096]⟩
abbrev S8x128x4096 : Shape := ⟨3, ![8, 128, 4096]⟩
abbrev S8x3x1024 : Shape := ⟨3, ![8, 3, 1024]⟩
abbrev S8x512x1024 : Shape := ⟨3, ![8, 512, 1024]⟩
abbrev S8x3x256 : Shape := ⟨3, ![8, 3, 256]⟩
abbrev S8x512x256 : Shape := ⟨3, ![8, 512, 256]⟩
abbrev S8x3x64 : Shape := ⟨3, ![8, 3, 64]⟩
abbrev S8x512x64 : Shape := ⟨3, ![8, 512, 64]⟩
abbrev S512x512 : Shape := ⟨2, ![512, 512]⟩
abbrev S512 : Shape := ⟨1, ![512]⟩
abbrev S256x512 : Shape := ⟨2, ![256, 512]⟩
abbrev S256 : Shape := ⟨1, ![256]⟩
abbrev S256x256 : Shape := ⟨2, ![256, 256]⟩
abbrev S_ : Shape := ⟨0, ![]⟩
abbrev S8x256 : Shape := ⟨2, ![8, 256]⟩
abbrev S8x256x1 : Shape := ⟨3, ![8, 256, 1]⟩
abbrev S8x64 : Shape := ⟨2, ![8, 64]⟩
abbrev S8x1x64 : Shape := ⟨3, ![8, 1, 64]⟩
abbrev S8x256x64 : Shape := ⟨3, ![8, 256, 64]⟩
abbrev S8x256x16 : Shape := ⟨3, ![8, 256, 16]⟩
abbrev S8x512x1x64 : Shape := ⟨4, ![8, 512, 1, 64]⟩
abbrev S8x1x256x16 : Shape := ⟨4, ![8, 1, 256, 16]⟩
abbrev S8x256x16x1 : Shape := ⟨4, ![8, 256, 16, 1]⟩
abbrev S1 : Shape := ⟨1, ![1]⟩
abbrev S1x1x1x1 : Shape := ⟨4, ![1, 1, 1, 1]⟩
abbrev S8x512x256x16 : Shape := ⟨4, ![8, 512, 256, 16]⟩
abbrev S8x256x512 : Shape := ⟨3, ![8, 256, 512]⟩
abbrev S1x512x1 : Shape := ⟨3, ![1, 512, 1]⟩
abbrev S8x1024 : Shape := ⟨2, ![8, 1024]⟩
abbrev S8x1024x1 : Shape := ⟨3, ![8, 1024, 1]⟩
abbrev S8x1x256 : Shape := ⟨3, ![8, 1, 256]⟩
abbrev S8x1024x256 : Shape := ⟨3, ![8, 1024, 256]⟩
abbrev S8x1024x16 : Shape := ⟨3, ![8, 1024, 16]⟩
abbrev S8x512x1x256 : Shape := ⟨4, ![8, 512, 1, 256]⟩
abbrev S8x1x1024x16 : Shape := ⟨4, ![8, 1, 1024, 16]⟩
abbrev S8x1024x16x1 : Shape := ⟨4, ![8, 1024, 16, 1]⟩
abbrev S8x512x1024x16 : Shape := ⟨4, ![8, 512, 1024, 16]⟩
abbrev S8x256x1024 : Shape := ⟨3, ![8, 256, 1024]⟩
abbrev S1x256x1 : Shape := ⟨3, ![1, 256, 1]⟩

abbrev nBuf : Space → Nat
  | .hbm => 195
  | .vmem => 0
  | .smem => 0
  | _ => 0

abbrev hbmTy0_0 (i : Nat) : BufTy := match i % 128 with
  | 0 => ⟨S8x3x4096, .f32⟩
  | 1 => ⟨S8x128x4096, .f32⟩
  | 2 => ⟨S8x3x1024, .f32⟩
  | 3 => ⟨S8x512x1024, .f32⟩
  | 4 => ⟨S8x3x256, .f32⟩
  | 5 => ⟨S8x512x256, .f32⟩
  | 6 => ⟨S8x3x64, .f32⟩
  | 7 => ⟨S8x512x64, .f32⟩
  | 8 => ⟨S512x512, .f32⟩
  | 9 => ⟨S512, .f32⟩
  | 10 => ⟨S512x512, .f32⟩
  | 11 => ⟨S512, .f32⟩
  | 12 => ⟨S256x512, .f32⟩
  | 13 => ⟨S256, .f32⟩
  | 14 => ⟨S256x256, .f32⟩
  | 15 => ⟨S256, .f32⟩
  | 16 => ⟨S_, .f32⟩
  | 17 => ⟨S_, .f32⟩
  | 18 => ⟨S_, .f32⟩
  | 19 => ⟨S_, .f32⟩
  | 20 => ⟨S_, .f32⟩
  | 21 => ⟨S8x3x256, .f32⟩
  | 22 => ⟨S_, .f32⟩
  | 23 => ⟨S8x256, .f32⟩
  | 24 => ⟨S8x256x1, .f32⟩
  | 25 => ⟨S8x3x64, .f32⟩
  | 26 => ⟨S_, .f32⟩
  | 27 => ⟨S8x64, .f32⟩
  | 28 => ⟨S8x1x64, .f32⟩
  | 29 => ⟨S8x256x64, .f32⟩
  | 30 => ⟨S8x256x64, .f32⟩
  | 31 => ⟨S8x256x64, .f32⟩
  | 32 => ⟨S8x256x64, .f32⟩
  | 33 => ⟨S_, .f32⟩
  | 34 => ⟨S8x256x64, .f32⟩
  | 35 => ⟨S8x256x64, .f32⟩
  | 36 => ⟨S8x256x64, .f32⟩
  | 37 => ⟨S_, .f32⟩
  | 38 => ⟨S8x256x64, .f32⟩
  | 39 => ⟨S8x256x64, .f32⟩
  | 40 => ⟨S8x256x64, .f32⟩
  | 41 => ⟨S8x256x16, .f32⟩
  | 42 => ⟨S8x256x16, .i32⟩
  | 43 => ⟨S8x256x16, .f32⟩
  | 44 => ⟨S8x256x16, .f32⟩
  | 45 => ⟨S_, .f32⟩
  | 46 => ⟨S_, .f32⟩
  | 47 => ⟨S_, .f32⟩
  | 48 => ⟨S8x256x16, .f32⟩
  | 49 => ⟨S8x256x16, .f32⟩
  | 50 => ⟨S8x256x16, .f32⟩
  | 51 => ⟨S_, .f32⟩
  | 52 => ⟨S8x256, .f32⟩
  | 53 => ⟨S8x256x1, .f32⟩
  | 54 => ⟨S_, .f32⟩
  | 55 => ⟨S8x256x1, .f32⟩
  | 56 => ⟨S8x256x1, .f32⟩
  | 57 => ⟨S8x256x16, .f32⟩
  | 58 => ⟨S8x256x16, .f32⟩
  | 59 => ⟨S8x512x1x64, .f32⟩
  | 60 => ⟨S8x1x256x16, .i32⟩
  | 61 => ⟨S_, .i32⟩
  | 62 => ⟨S8x1x256x16, .i32⟩
  | 63 => ⟨S8x1x256x16, .i1⟩
  | 64 => ⟨S_, .i32⟩
  | 65 => ⟨S8x1x256x16, .i32⟩
  | 66 => ⟨S8x1x256x16, .i32⟩
  | 67 => ⟨S8x1x256x16, .i32⟩
  | 68 => ⟨S8x256x16x1, .i32⟩
  | 69 => ⟨S8x512x64, .f32⟩
  | 70 => ⟨S1, .i32⟩
  | 71 => ⟨S_, .i32⟩
  | 72 => ⟨S8x256x16x1, .i32⟩
  | 73 => ⟨S8x256x16x1, .i1⟩
  | 74 => ⟨S1x1x1x1, .i32⟩
  | 75 => ⟨S8x256x16x1, .i32⟩
  | 76 => ⟨S8x256x16x1, .i1⟩
  | 77 => ⟨S8x256x16x1, .i1⟩
  | 78 => ⟨S_, .i1⟩
  | 79 => ⟨S8x256x16, .i1⟩
  | 80 => ⟨S8x512x256x16, .f32⟩
  | 81 => ⟨S8x512x256x16, .i1⟩
  | 82 => ⟨S_, .f32⟩
  | 83 => ⟨S8x512x256x16, .f32⟩
  | 84 => ⟨S8x512x256x16, .f32⟩
  | 85 => ⟨S8x1x256x16, .f32⟩
  | 86 => ⟨S8x512x256x16, .f32⟩
  | 87 => ⟨S8x512x256x16, .f32⟩
  | 88 => ⟨S_, .f32⟩
  | 89 => ⟨S8x512x256, .f32⟩
  | 90 => ⟨S8x512x256, .f32⟩
  | 91 => ⟨S8x256x512, .f32⟩
  | 92 => ⟨S8x512x256, .f32⟩
  | 93 => ⟨S1x512x1, .f32⟩
  | 94 => ⟨S8x512x256, .f32⟩
  | 95 => ⟨S8x512x256, .f32⟩
  | 96 => ⟨S_, .f32⟩
  | 97 => ⟨S8x512x256, .f32⟩
  | 98 => ⟨S8x512x256, .f32⟩
  | 99 => ⟨S8x256x512, .f32⟩
  | 100 => ⟨S8x512x256, .f32⟩
  | 101 => ⟨S1x512x1, .f32⟩
  | 102 => ⟨S8x512x256, .f32⟩
  | 103 => ⟨S8x512x256, .f32⟩
  | 104 => ⟨S_, .f32⟩
  | 105 => ⟨S8x512x256, .f32⟩
  | 106 => ⟨S8x512x256, .f32⟩
  | 107 => ⟨S_, .f32⟩
  | 108 => ⟨S_, .f32⟩
  | 109 => ⟨S8x3x1024, .f32⟩
  | 110 => ⟨S_, .f32⟩
  | 111 => ⟨S8x1024, .f32⟩
  | 112 => ⟨S8x1024x1, .f32⟩
  | 113 => ⟨S8x3x256, .f32⟩
  | 114 => ⟨S_, .f32⟩
  | 115 => ⟨S8x256, .f32⟩
  | 116 => ⟨S8x1x256, .f32⟩
  | 117 => ⟨S8x1024x256, .f32⟩
  | 118 => ⟨S8x1024x256, .f32⟩
  | 119 => ⟨S8x1024x256, .f32⟩
  | 120 => ⟨S8x1024x256, .f32⟩
  | 121 => ⟨S_, .f32⟩
  | 122 => ⟨S8x1024x256, .f32⟩
  | 123 => ⟨S8x1024x256, .f32⟩
  | 124 => ⟨S8x1024x256, .f32⟩
  | 125 => ⟨S_, .f32⟩
  | 126 => ⟨S8x1024x256, .f32⟩
  | 127 => ⟨S8x1024x256, .f32⟩
  | _ => ⟨S8x3x4096, .f32⟩

abbrev hbmTy0_1 (i : Nat) : BufTy := match i % 128 with
  | 0 => ⟨S8x1024x256, .f32⟩
  | 1 => ⟨S8x1024x16, .f32⟩
  | 2 => ⟨S8x1024x16, .i32⟩
  | 3 => ⟨S8x1024x16, .f32⟩
  | 4 => ⟨S8x1024x16, .f32⟩
  | 5 => ⟨S_, .f32⟩
  | 6 => ⟨S_, .f32⟩
  | 7 => ⟨S_, .f32⟩
  | 8 => ⟨S8x1024x16, .f32⟩
  | 9 => ⟨S8x1024x16, .f32⟩
  | 10 => ⟨S8x1024x16, .f32⟩
  | 11 => ⟨S_, .f32⟩
  | 12 => ⟨S8x1024, .f32⟩
  | 13 => ⟨S8x1024x1, .f32⟩
  | 14 => ⟨S_, .f32⟩
  | 15 => ⟨S8x1024x1, .f32⟩
  | 16 => ⟨S8x1024x1, .f32⟩
  | 17 => ⟨S8x1024x16, .f32⟩
  | 18 => ⟨S8x1024x16, .f32⟩
  | 19 => ⟨S8x512x1x256, .f32⟩
  | 20 => ⟨S8x1x1024x16, .i32⟩
  | 21 => ⟨S_, .i32⟩
  | 22 => ⟨S8x1x1024x16, .i32⟩
  | 23 => ⟨S8x1x1024x16, .i1⟩
  | 24 => ⟨S_, .i32⟩
  | 25 => ⟨S8x1x1024x16, .i32⟩
  | 26 => ⟨S8x1x1024x16, .i32⟩
  | 27 => ⟨S8x1x1024x16, .i32⟩
  | 28 => ⟨S8x1024x16x1, .i32⟩
  | 29 => ⟨S8x512x256, .f32⟩
  | 30 => ⟨S1, .i32⟩
  | 31 => ⟨S_, .i32⟩
  | 32 => ⟨S8x1024x16x1, .i32⟩
  | 33 => ⟨S8x1024x16x1, .i1⟩
  | 34 => ⟨S1x1x1x1, .i32⟩
  | 35 => ⟨S8x1024x16x1, .i32⟩
  | 36 => ⟨S8x1024x16x1, .i1⟩
  | 37 => ⟨S8x1024x16x1, .i1⟩
  | 38 => ⟨S_, .i1⟩
  | 39 => ⟨S8x1024x16, .i1⟩
  | 40 => ⟨S8x512x1024x16, .f32⟩
  | 41 => ⟨S8x512x1024x16, .i1⟩
  | 42 => ⟨S_, .f32⟩
  | 43 => ⟨S8x512x1024x16, .f32⟩
  | 44 => ⟨S8x512x1024x16, .f32⟩
  | 45 => ⟨S8x1x1024x16, .f32⟩
  | 46 => ⟨S8x512x1024x16, .f32⟩
  | 47 => ⟨S8x512x1024x16, .f32⟩
  | 48 => ⟨S_, .f32⟩
  | 49 => ⟨S8x512x1024, .f32⟩
  | 50 => ⟨S8x512x1024, .f32⟩
  | 51 => ⟨S8x1024x256, .f32⟩
  | 52 => ⟨S8x256x1024, .f32⟩
  | 53 => ⟨S1x256x1, .f32⟩
  | 54 => ⟨S8x256x1024, .f32⟩
  | 55 => ⟨S8x256x1024, .f32⟩
  | 56 => ⟨S_, .f32⟩
  | 57 => ⟨S8x256x1024, .f32⟩
  | 58 => ⟨S8x256x1024, .f32⟩
  | 59 => ⟨S8x1024x256, .f32⟩
  | 60 => ⟨S8x256x1024, .f32⟩
  | 61 => ⟨S1x256x1, .f32⟩
  | 62 => ⟨S8x256x1024, .f32⟩
  | 63 => ⟨S8x256x1024, .f32⟩
  | 64 => ⟨S_, .f32⟩
  | 65 => ⟨S8x256x1024, .f32⟩
  | 66 => ⟨S8x256x1024, .f32⟩
  | _ => ⟨S8x3x4096, .f32⟩

abbrev hbmTy (i : Nat) : BufTy := match i / 128 with
  | 0 => hbmTy0_0 i
  | 1 => hbmTy0_1 i
  | _ => ⟨S8x3x4096, .f32⟩

abbrev bufTy : (tb : Table) → Fin (tcTables nBuf tb) → BufTy
  | .hbm, ⟨i, _⟩ => hbmTy i
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_cst_1 : Ref sig .tc := ⟨.hbm, 19, rfl⟩
abbrev main_v1 : Ref sig .tc := ⟨.hbm, 20, rfl⟩
abbrev main_v2 : Ref sig .tc := ⟨.hbm, 21, rfl⟩
abbrev main_cst_2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_3 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_values : Ref sig .tc := ⟨.hbm, 41, rfl⟩
abbrev main_indices : Ref sig .tc := ⟨.hbm, 42, rfl⟩
abbrev main_v18 : Ref sig .tc := ⟨.hbm, 43, rfl⟩
abbrev main_v19 : Ref sig .tc := ⟨.hbm, 44, rfl⟩
abbrev main_cst_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call0_c : Ref sig .tc := ⟨.hbm, 61, rfl⟩
abbrev main_call0_v0 : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_c_1 : Ref sig .tc := ⟨.hbm, 70, rfl⟩
abbrev main_call0_c_2 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_call0_c_3 : Ref sig .tc := ⟨.hbm, 78, rfl⟩
abbrev main_call0_v13 : Ref sig .tc := ⟨.hbm, 79, rfl⟩
abbrev main_call0_v14 : Ref sig .tc := ⟨.hbm, 80, rfl⟩
abbrev main_call0_v15 : Ref sig .tc := ⟨.hbm, 81, rfl⟩
abbrev main_call0_cst : Ref sig .tc := ⟨.hbm, 82, rfl⟩
abbrev main_call0_v16 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_9 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_call1_cst : Ref sig .tc := ⟨.hbm, 96, rfl⟩
abbrev main_call1_v0 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_call2_cst : Ref sig .tc := ⟨.hbm, 104, rfl⟩
abbrev main_call2_v0 : Ref sig .tc := ⟨.hbm, 105, rfl⟩
abbrev main_v50 : Ref sig .tc := ⟨.hbm, 106, rfl⟩
abbrev main_cst_10 : Ref sig .tc := ⟨.hbm, 107, rfl⟩
abbrev main_v51 : Ref sig .tc := ⟨.hbm, 108, rfl⟩
abbrev main_v52 : Ref sig .tc := ⟨.hbm, 109, rfl⟩
abbrev main_cst_11 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_cst_12 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_13 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_cst_14 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_values_15 : Ref sig .tc := ⟨.hbm, 129, rfl⟩
abbrev main_indices_16 : Ref sig .tc := ⟨.hbm, 130, rfl⟩
abbrev main_v68 : Ref sig .tc := ⟨.hbm, 131, rfl⟩
abbrev main_v69 : Ref sig .tc := ⟨.hbm, 132, rfl⟩
abbrev main_cst_17 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_18 : Ref sig .tc := ⟨.hbm, 139, rfl⟩
abbrev main_v75 : Ref sig .tc := ⟨.hbm, 140, rfl⟩
abbrev main_v76 : Ref sig .tc := ⟨.hbm, 141, rfl⟩
abbrev main_cst_19 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_call3_c : Ref sig .tc := ⟨.hbm, 149, rfl⟩
abbrev main_call3_v0 : Ref sig .tc := ⟨.hbm, 150, rfl⟩
abbrev main_call3_v1 : Ref sig .tc := ⟨.hbm, 151, rfl⟩
abbrev main_call3_c_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_c_1 : Ref sig .tc := ⟨.hbm, 158, rfl⟩
abbrev main_call3_c_2 : Ref sig .tc := ⟨.hbm, 159, rfl⟩
abbrev main_call3_v7 : Ref sig .tc := ⟨.hbm, 160, rfl⟩
abbrev main_call3_v8 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_v12 : Ref sig .tc := ⟨.hbm, 165, rfl⟩
abbrev main_call3_c_3 : Ref sig .tc := ⟨.hbm, 166, rfl⟩
abbrev main_call3_v13 : Ref sig .tc := ⟨.hbm, 167, rfl⟩
abbrev main_call3_v14 : Ref sig .tc := ⟨.hbm, 168, rfl⟩
abbrev main_call3_v15 : Ref sig .tc := ⟨.hbm, 169, rfl⟩
abbrev main_call3_cst : Ref sig .tc := ⟨.hbm, 170, rfl⟩
abbrev main_call3_v16 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_cst_20 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_call4_cst : Ref sig .tc := ⟨.hbm, 184, rfl⟩
abbrev main_call4_v0 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_call5_cst : Ref sig .tc := ⟨.hbm, 192, rfl⟩
abbrev main_call5_v0 : Ref sig .tc := ⟨.hbm, 193, rfl⟩
abbrev main_v100 : Ref sig .tc := ⟨.hbm, 194, rfl⟩

abbrev nD : Nat := 1
abbrev τ : Topo := Topo.v7x

variable {F : FTy → Type} [FloatOps F]
-- ==== Proof.Selection.lean ====
/-
  The sixteen nearest points, found in two ways. The kernel raises a threshold sixteen times: each round takes the least
  distance above the present threshold. The reference sorts the distances and keeps the first sixteen positions. This
  module states the rounds as a plain recursion over extended reals and shows that, where the distances among the nearest
  seventeen are pairwise different, what lies at or under the threshold is exactly what the sort puts first. Nothing here
  speaks of a program.
-/
module

public import Idealize.ShloMosaic.PureOps.Ideal

@[expose] public section

noncomputable section

namespace Cert.Deconv

variable {n : Nat}

/-- The threshold after `k` rounds: it starts below everything, and each round raises it to the least entry of `D` above
    it (to `⊤` if there is none). -/
def cut (D : Fin n → EReal) : Nat → EReal
  | 0 => ⊥
  | k + 1 => Finset.univ.fold min ⊤ fun j => if cut D k < D j then D j else ⊤

/-- `σ` lists all positions of `D` in ascending order of their entries, and its first `m` entries are strictly below
    everything that comes after them. -/
structure Ranks (D : Fin n → EReal) (m : Nat) (σ : Fin n → Fin n) : Prop where
  bij : Function.Bijective σ
  mono : ∀ i j, i ≤ j → D (σ i) ≤ D (σ j)
  strict : ∀ i j, i < j → i.val < m → D (σ i) < D (σ j)

variable {D : Fin n → EReal} {m : Nat} {σ : Fin n → Fin n}

/-- A round after which the threshold has reached the `k`-th smallest entry was begun with the threshold just below it. -/
theorem cut_succ (hD : ∀ j, ⊥ < D j) (h : Ranks D m σ) (k : Nat) (hk : k < m) (hn : k < n) :
    cut D (k + 1) = D (σ ⟨k, hn⟩) := by
  -- what the round starts from is below the `k`-th smallest entry, and not below any earlier one
  have start : cut D k < D (σ ⟨k, hn⟩) ∧ ∀ i : Fin n, i.val < k → D (σ i) ≤ cut D k := by
    cases k with
    | zero => exact ⟨hD _, fun i hi => absurd hi (Nat.not_lt_zero _)⟩
    | succ k =>
      rw [cut_succ hD h k (by omega) (by omega)]
      exact ⟨h.strict _ _ (Fin.mk_lt_mk.mpr (by omega)) (by simp; omega),
        fun i hi => h.mono _ _ (Fin.mk_le_mk.mpr (by omega))⟩
  apply le_antisymm
  · refine (Finset.fold_min_le _).mpr (.inr ⟨σ ⟨k, hn⟩, Finset.mem_univ _, ?_⟩)
    rw [if_pos start.1]
  · refine (Finset.le_fold_min _).mpr ⟨le_top, fun j _ => ?_⟩
    obtain ⟨i, rfl⟩ := h.bij.2 j
    split
    · rename_i hi
      exact h.mono _ _ (by
        rw [Fin.le_def]
        by_contra hlt
        exact absurd hi (not_lt.mpr (start.2 i (by simpa using hlt))))
    · exact le_top

/-- After `m` rounds the entries at or under the threshold are the first `m` of the ascending order. -/
theorem le_cut_iff (hD : ∀ j, ⊥ < D j) (h : Ranks D m σ) (hm : 0 < m) (hn : m ≤ n) (i : Fin n) :
    D (σ i) ≤ cut D m ↔ i.val < m := by
  obtain ⟨k, rfl⟩ := Nat.exists_eq_succ_of_ne_zero hm.ne'
  rw [Nat.succ_eq_add_one, cut_succ hD h k (by omega) (by omega)]
  constructor
  · intro hle
    by_contra hlt
    exact absurd hle (not_le.mpr (h.strict ⟨k, by omega⟩ i (Fin.lt_def.mpr (by simp; omega)) (by simp)))
  · intro hlt
    exact h.mono _ _ (Fin.le_def.mpr (by simp; omega))

/-- So a sum over the entries at or under the threshold is the sum over the first `m` positions of the ascending order. -/
theorem sum_le_cut {M : Type*} [AddCommMonoid M] (hD : ∀ j, ⊥ < D j) (h : Ranks D m σ) (hm : 0 < m) (hn : m ≤ n) (F : Fin n → M) :
    ∑ j, (if D j ≤ cut D m then F j else 0) = ∑ k : Fin m, F (σ (k.castLE hn)) := by
  rw [← (Equiv.ofBijective σ h.bij).sum_comp]
  simp only [Equiv.ofBijective_apply, le_cut_iff hD h hm hn]
  obtain ⟨r, rfl⟩ := Nat.exists_eq_add_of_le hn
  rw [Fin.sum_univ_add]
  simp only [Fin.val_castAdd, Fin.is_lt, if_true, Fin.val_natAdd, Nat.not_lt.mpr (Nat.le_add_right m _), if_false,
    Finset.sum_const_zero, add_zero]
  rfl

end Cert.Deconv

end
-- ==== Proof.TopK.lean ====
/-
  The reference's `top_k` read at an index. It is the head of a stable sort of every fibre along the last axis, so one
  listing of the positions gives the values and the indices of the `K` greatest, the same listing whatever `K` is.
-/
module

public import proofs.«01_k».proof.Proof.Selection
public import Idealize.ShloMosaic.Lib.SortFacts
public import Idealize.ShloMosaic.Lib.Pointwise.Index

@[expose] public section

noncomputable section

namespace Cert.Deconv

open Idealize.ShloMosaic

variable {n : Nat}

/-- The positions of `x` from the greatest entry down, equal entries in order of position. -/
def rank (x : Fin n → EReal) : Fin n → Fin n :=
  sortedFrom fun a b => Ideal.cmpTotal .gt (x a) (x b) == 1#1

/-- The sort's comparator, decided: `a` goes before `b` when its entry is the greater. -/
theorem before_eq (x : Fin n → EReal) (a b : Fin n) :
    (Ideal.cmpTotal .gt (x a) (x b) == 1#1) = decide (x b < x a) := by
  show (BitVec.ofBool (decide (x b < x a)) == 1#1) = _
  cases decide (x b < x a) <;> rfl

/-- Along `rank x` the entries never increase. -/
theorem rank_anti (x : Fin n → EReal) (i j : Fin n) (hij : i ≤ j) : x (rank x j) ≤ x (rank x i) := by
  rcases hij.eq_or_lt with rfl | hlt
  · exact le_rfl
  have h := sortedFrom_noInversion (fun a b => decide (x b < x a)) (fun a b => decide (x b < x a))
    (fun a b h => by simpa using (of_decide_eq_true h).le) (fun _ _ h => h)
    (fun a b c h1 h2 => by simp only [decide_eq_false_iff_not, not_lt] at *; exact h1.trans h2) i j hlt
  simp only [decide_eq_false_iff_not, not_lt] at h
  unfold rank
  simpa only [before_eq] using h

/-- `rank x` lists every index once. -/
theorem rank_bijective (x : Fin n → EReal) : Function.Bijective (rank x) :=
  ⟨sortedFrom_injective _, sortedFrom_surjective _⟩

variable {B N M K : Nat}

/-- The fibre of `x` through `(b, i)`. -/
abbrev fibre (x : FVec Ideal ⟨3, ![B, N, M]⟩ .f32) (b : Fin B) (i : Fin N) : Fin M → EReal := fun j => x (ix3 b i j)

/-- Moving an index along the last axis sets its last coordinate. -/
theorem along_ix3 (b : Fin B) (i : Fin N) (j k : Fin M) (h : 2 < (⟨3, ![B, N, M]⟩ : Shape).rank) :
    (ix3 b i j : (⟨3, ![B, N, M]⟩ : Shape).Idx).along (⟨2, h⟩ : Fin 3) k = ix3 b i k := by
  funext a
  match a with
  | ⟨0, _⟩ => rfl
  | ⟨1, _⟩ => rfl
  | ⟨2, _⟩ => rfl

/-- The sort's listing of the fibre through `(b, i, j)` is `rank` of that fibre. -/
theorem sortedFrom_along (x : FVec Ideal ⟨3, ![B, N, M]⟩ .f32) (b : Fin B) (i : Fin N) (j k : Fin M)
    (h : 2 < (⟨3, ![B, N, M]⟩ : Shape).rank) :
    sortedFrom (fun p q : Fin M => Ideal.cmpTotal .gt (x ((ix3 b i j).along (⟨2, h⟩ : Fin 3) p))
      (x ((ix3 b i j).along (⟨2, h⟩ : Fin 3) q)) == 1#1) k = rank (fibre x b i) k :=
  congrArg (fun g : Fin M → Fin M → Bool => sortedFrom g k) (funext fun p => funext fun q =>
    congrArg₂ (fun u v => Ideal.cmpTotal .gt (x u) (x v) == 1#1) (along_ix3 b i j p h) (along_ix3 b i j q h))

/-- The index a slice at offset 0 reads. -/
theorem head_ix3 (hK : K ≤ M) (b : Fin B) (i : Fin N) (k : Fin K)
    (h : (⟨3, ![B, N, M]⟩ : Shape).Slices (fun _ => 0) ⟨3, ![B, N, K]⟩) :
    (fun a => ⟨0 + ((ix3 b i k : (⟨3, ![B, N, K]⟩ : Shape).Idx) (a.cast h.1.symm)).val,
      Nat.lt_of_lt_of_le (Nat.add_lt_add_left (Fin.isLt _) _) (h.2 a)⟩ : (⟨3, ![B, N, M]⟩ : Shape).Idx)
      = ix3 b i (k.castLE hK) := by
  funext a
  match a with
  | ⟨0, _⟩ => exact Fin.ext (Nat.zero_add _)
  | ⟨1, _⟩ => exact Fin.ext (Nat.zero_add _)
  | ⟨2, _⟩ => exact Fin.ext (Nat.zero_add _)

/-- The `k`-th value of `top_k` is the entry at the `k`-th position of the listing. -/
theorem topK_values (hK : K ≤ M) (x : FVec Ideal ⟨3, ![B, N, M]⟩ .f32) (h) (b : Fin B) (i : Fin N) (k : Fin K) :
    (Host.topK ⟨3, ![B, N, K]⟩ 2 (FloatOps.cmpfTotal (F := Ideal) (φ := .f32) .gt) x h).1 (ix3 b i k)
      = fibre x b i (rank (fibre x b i) (k.castLE hK)) := by
  unfold Host.topK extractStridedSlice
  dsimp only
  rw [head_ix3 hK b i k h]
  unfold Host.sort2
  rw [dif_pos (show 2 < (⟨3, ![B, N, M]⟩ : Shape).rank from Nat.lt_succ_self 2)]
  exact (congrArg x (along_ix3 b i _ _ _)).trans
    (congrArg (fun p => x (ix3 b i p)) (sortedFrom_along x b i (k.castLE hK) (k.castLE hK) _))

/-- The `k`-th index of `top_k` is that position as a word. -/
theorem topK_indices (hK : K ≤ M) (x : FVec Ideal ⟨3, ![B, N, M]⟩ .f32) (h) (b : Fin B) (i : Fin N) (k : Fin K) :
    (Host.topK ⟨3, ![B, N, K]⟩ 2 (FloatOps.cmpfTotal (F := Ideal) (φ := .f32) .gt) x h).2 (ix3 b i k)
      = BitVec.ofNat 32 (rank (fibre x b i) (k.castLE hK)).val := by
  unfold Host.topK extractStridedSlice
  dsimp only
  rw [head_ix3 hK b i k h]
  unfold Host.sort2
  rw [dif_pos (show 2 < (⟨3, ![B, N, M]⟩ : Shape).rank from Nat.lt_succ_self 2)]
  exact (congrArg (fun u : (⟨3, ![B, N, M]⟩ : Shape).Idx => BitVec.ofNat 32 (u 2).val) (along_ix3 b i _ _ _)).trans
    (congrArg (fun p : Fin M => BitVec.ofNat 32 p.val) (sortedFrom_along x b i (k.castLE hK) (k.castLE hK) _))

end Cert.Deconv

end
-- ==== Proof.Consts.lean ====
/-
  The literals of the two programs as extended reals: the infinities the threshold starts from, and the two bandwidths,
  which the kernel multiplies by (−3.125 and −12.5) and the reference divides by (2·h² for h = 8/20 and h = 4/20).
-/
module

public import Idealize.ShloMosaic.PureOps.Ideal

@[expose] public section

noncomputable section

namespace Cert.Deconv

open Idealize.ShloMosaic

theorem top_bf16 : Ideal.ofBits .bf16 0x7F80#16 = ⊤ := by simp [Ideal.ofBits, Ideal.ieee]
theorem bot_bf16 : Ideal.ofBits .bf16 0xFF80#16 = ⊥ := by simp [Ideal.ofBits, Ideal.ieee]
theorem top_f32 : Ideal.ofBits .f32 0x7F800000#32 = ⊤ := by simp [Ideal.ofBits, Ideal.ieee]

/-- What a normal f32 word denotes, by its sign bit, exponent field and fraction field. -/
theorem ofBits_normal (w : BitVec 32) (neg : Bool) (ex fr : Nat) (hn : (w.extractLsb' 31 1 == 1#1) = neg)
    (he : (w.extractLsb' 23 8).toNat = ex) (hf : (w.extractLsb' 0 23).toNat = fr) (h1 : ex ≠ 255) (h0 : ex ≠ 0) :
    Ideal.ofBits .f32 w
      = (((if neg then -1 else 1) * (2 ^ 23 + fr : Nat) * (2 : ℝ) ^ ((ex : Int) - 127 - 23) : ℝ) : EReal) := by
  subst hn he hf
  unfold Ideal.ofBits Ideal.ieee
  dsimp only
  rw [if_neg (by simpa using h1), if_neg (by simpa using h0)]
  norm_num

theorem two_f32 : Ideal.ofBits .f32 0x40000000#32 = ((2 : ℝ) : EReal) := by
  rw [ofBits_normal 0x40000000#32 false 128 0 rfl rfl rfl (by decide) (by decide)]; norm_num
theorem four_f32 : Ideal.ofBits .f32 0x40800000#32 = ((4 : ℝ) : EReal) := by
  rw [ofBits_normal 0x40800000#32 false 129 0 rfl rfl rfl (by decide) (by decide)]; norm_num
theorem eight_f32 : Ideal.ofBits .f32 0x41000000#32 = ((8 : ℝ) : EReal) := by
  rw [ofBits_normal 0x41000000#32 false 130 0 rfl rfl rfl (by decide) (by decide)]; norm_num
theorem twenty_f32 : Ideal.ofBits .f32 0x41A00000#32 = ((20 : ℝ) : EReal) := by
  rw [ofBits_normal 0x41A00000#32 false 131 2097152 rfl rfl rfl (by decide) (by decide)]; norm_num
theorem rateA_f32 : Ideal.ofBits .f32 0xC0480000#32 = ((-(25 / 8) : ℝ) : EReal) := by
  rw [ofBits_normal 0xC0480000#32 true 128 4718592 rfl rfl rfl (by decide) (by decide)]; norm_num
theorem rateB_f32 : Ideal.ofBits .f32 0xC1480000#32 = ((-(25 / 2) : ℝ) : EReal) := by
  rw [ofBits_normal 0xC1480000#32 true 130 4718592 rfl rfl rfl (by decide) (by decide)]; norm_num
theorem eps_f32 : Ideal.ofBits .f32 0x322BCC77#32 = ((11258999 / 2 ^ 50 : ℝ) : EReal) := by
  rw [ofBits_normal 0x322BCC77#32 false 100 2870391 rfl rfl rfl (by decide) (by decide)]; norm_num

end Cert.Deconv

end
-- ==== Proof.Deconv.lean ====
/-
  One level of the network as plain mathematics over extended reals: squared distances, Gaussian weights of the sixteen
  nearest sparse points, interpolation, and two layers. It is stated twice, with the nearest points picked by the raised
  threshold (`deconv`, the kernel's way) and by the sorted listing (`deconvSorted`, the reference's way), for any numbers
  of points and features, and the two are proved equal where the nearest seventeen distances are pairwise different.
-/
module

public import proofs.«01_k».proof.Proof.TopK
public import proofs.«01_k».proof.Proof.Consts

@[expose] public section

noncomputable section

namespace Cert.Deconv

open Idealize.ShloMosaic

/-- The constant 2 of the squared distance, as both programs write it. -/
abbrev two : EReal := Ideal.ofBits .f32 0x40000000#32

/-- The constant 1e-8 both programs add to the sum of the weights. -/
abbrev eps : EReal := Ideal.ofBits .f32 0x322BCC77#32

/-- The divisor's added constant is positive. -/
theorem eps_pos : 0 < eps := by
  rw [eps, eps_f32]
  exact EReal.coe_pos.mpr (by positivity)

/-- The squared distance of a sparse point `p` and a dense point `q`, expanded, and kept from falling below zero. -/
def dist2 (p q : Fin 3 → EReal) : EReal := max (∑ c, p c * p c + ∑ c, q c * q c - two * ∑ c, p c * q c) 0

/-- A squared distance is never below zero, so it lies above `⊥`. -/
theorem bot_lt_dist2 (p q : Fin 3 → EReal) : ⊥ < dist2 p q :=
  lt_of_lt_of_le (EReal.bot_lt_zero) (le_max_right _ _)

/-- One output feature of a layer: weights times inputs, plus the bias, cut off at zero. -/
def layer {n : Nat} (w : Fin n → EReal) (b : EReal) (x : Fin n → EReal) : EReal := max (∑ i, w i * x i + b) 0

section interp

variable {n : Nat} (r : EReal) (D : Fin n → EReal)

/-- The kernel's unnormalised weight: the Gaussian of the distance at or under the threshold, and zero above it. -/
def gauss (j : Fin n) : EReal := if D j ≤ cut D 16 then Ideal.exp (D j * r) else 0

/-- The kernel's interpolated feature: the sum over ALL sparse points, weighted. -/
def interp (f : Fin n → EReal) : EReal := ∑ j, f j * Ideal.div (gauss r D j) (∑ i, gauss r D i + eps)

/-- The positions of `D` from the least entry up: the listing that sorting `-D` from the greatest entry down gives. -/
def nearest : Fin n → Fin n := rank fun j => -D j

/-- The reference's interpolated feature: the sum over the first sixteen sparse points of the listing, weighted. -/
def interpSorted (hn : 16 ≤ n) (f : Fin n → EReal) : EReal :=
  ∑ k : Fin 16, f (nearest D (k.castLE hn)) * Ideal.div (Ideal.exp (D (nearest D (k.castLE hn)) * r))
    (∑ i : Fin 16, Ideal.exp (D (nearest D (i.castLE hn)) * r) + eps)

/-- The nearest seventeen distances are pairwise different: along the listing each is less than the next. -/
def Distinct (hn : 17 ≤ n) : Prop :=
  ∀ k : Fin 16, D (nearest D (k.castSucc.castLE hn)) < D (nearest D (k.succ.castLE hn))

variable {r D}

/-- Then the listing is an ascending order whose first sixteen entries are strictly below what follows. -/
theorem ranks (hn : 17 ≤ n) (h : Distinct D hn) : Ranks D 16 (nearest D) where
  bij := rank_bijective _
  mono i j hij := EReal.neg_le_neg_iff.mp (rank_anti (fun j => -D j) i j hij)
  strict i j hij hi :=
    (h ⟨i.val, hi⟩).trans_le (EReal.neg_le_neg_iff.mp (rank_anti (fun j => -D j)
      ((⟨i.val, hi⟩ : Fin 16).succ.castLE hn) j (Fin.le_def.mpr (by simpa using hij))))

/-- Zero over anything but zero is zero. -/
theorem div_zero_left {y : EReal} (hy : y ≠ 0) : Ideal.div 0 y = 0 := by
  rw [Ideal.div, if_neg hy, zero_mul]

/-- An exponential is never negative. -/
theorem exp_nonneg (x : EReal) : 0 ≤ Ideal.exp x := by
  induction x with
  | bot => exact le_rfl
  | top => exact le_top
  | coe x => exact EReal.coe_nonneg.mpr (Real.exp_pos x).le

/-- The two ways of interpolating agree. -/
theorem interp_eq (hD : ∀ j, ⊥ < D j) (hn : 17 ≤ n) (h : Distinct D hn) (f : Fin n → EReal) :
    interp r D f = interpSorted r D (by omega) f := by
  have R := ranks hn h
  have hs : ∑ i, gauss r D i = ∑ k : Fin 16, Ideal.exp (D (nearest D (k.castLE (by omega))) * r) :=
    sum_le_cut hD R (by decide) (by omega) fun j => Ideal.exp (D j * r)
  have hpos : ∑ i, gauss r D i + eps ≠ 0 := by
    refine ne_of_gt (lt_of_lt_of_le eps_pos (le_add_of_nonneg_left (Finset.sum_nonneg fun i _ => ?_)))
    unfold gauss
    split
    · exact exp_nonneg _
    · exact le_rfl
  unfold interp interpSorted
  rw [← hs, ← sum_le_cut hD R (by decide) (by omega)
    fun j => f j * Ideal.div (Ideal.exp (D j * r)) (∑ i, gauss r D i + eps)]
  refine Finset.sum_congr rfl fun j _ => ?_
  conv_lhs => rw [gauss]
  split
  · rfl
  · rw [div_zero_left hpos, mul_zero]

end interp

section level

variable {C H O Ns Nd : Nat} (r : EReal) (sx : Fin 3 → Fin Ns → EReal) (sp : Fin C → Fin Ns → EReal)
  (dx : Fin 3 → Fin Nd → EReal) (dp : Fin C → Fin Nd → EReal) (W : Fin H → Fin C → EReal) (b : Fin H → EReal)
  (W' : Fin O → Fin H → EReal) (b' : Fin O → EReal)

/-- The squared distances from dense point `i` to every sparse point. -/
abbrev dists (i : Fin Nd) : Fin Ns → EReal := fun s => dist2 (fun c => sx c s) (fun c => dx c i)

/-- One level, the nearest points picked by the threshold. -/
def deconv (o : Fin O) (i : Fin Nd) : EReal :=
  layer (W' o) (b' o) fun h => layer (W h) (b h) fun c => interp r (dists sx dx i) (sp c) + dp c i

/-- One level, the nearest points picked by the sorted listing. -/
def deconvSorted (hn : 16 ≤ Ns) (o : Fin O) (i : Fin Nd) : EReal :=
  layer (W' o) (b' o) fun h => layer (W h) (b h) fun c => interpSorted r (dists sx dx i) hn (sp c) + dp c i

/-- The two agree where the nearest seventeen distances from every dense point are pairwise different. -/
theorem deconv_eq (hn : 17 ≤ Ns) (h : ∀ i, Distinct (dists sx dx i) hn) :
    deconv r sx sp dx dp W b W' b' = deconvSorted r sx sp dx dp W b W' b' (by omega) := by
  funext o i
  unfold deconv deconvSorted
  simp only [interp_eq (fun s => bot_lt_dist2 _ _) hn (h i)]

end level

end Cert.Deconv

end
-- ==== Proof.Weights.lean ====
/-
  What the kernel's vector computations compute, one entry at a time, over the extended reals: the squared distances of
  each level, the rounds that raise the threshold, and the normalised weights of the nearest points.

  Level A interpolates from 64 points onto 256, level B from 256 onto 1024. Everywhere `l` is the dense point and `r` the
  sparse one, and the column at `l` of the table of distances is what a threshold belongs to.
-/
module

public import proofs.«01_k».proof.Proof.Gen.KernelIdeal.Skeleton
public import proofs.«01_k».proof.Proof.Deconv
public import Idealize.ShloMosaic.Lib.Pointwise

@[expose] public section

set_option maxRecDepth 16384

noncomputable section

namespace Cert.KernelIdeal.Weights

open Idealize.ShloMosaic Cert.Deconv Cert.KernelIdeal.Gen

/-- The column of a table of distances that belongs to the dense point `l`. -/
abbrev col {n m : Nat} {φ : FTy} (v : FVec Ideal ⟨2, ![n, m]⟩ φ) (l : Fin m) : Fin n → EReal := fun r => v (ix2 r l)

section levelA

variable (sx : Vec Ideal S1x3x64 .f32) (dx : Vec Ideal S1x3x256 .f32) (v : FVec Ideal S64x256 .bf16) (l : Fin 256)

/-- Level A's table of distances holds the squared distances. -/
theorem distA : col (k0_pay1 sx dx) l = dists (fun c s => sx (ix3 0 c s)) (fun c i => dx (ix3 0 c i)) l := by
  funext r
  simp only [col]
  pointwise [k0_pay1]
  rfl

/-- The first three rounds. -/
theorem roundsA_3 : k0_pay3 sx dx (ix1 l) = cut (col (k0_pay1 sx dx) l) 3 := by
  pointwise [k0_pay3, k0_pay2]
  simp only [top_bf16, bot_bf16, top_f32]
  rfl

/-- Rounds four to nine, and the mask of what lies above the threshold then. -/
theorem roundsA_9 (t : FVec Ideal S256 .bf16) (h : t (ix1 l) = cut (col v l) 3) (r : Fin 64) :
    k0_pay4 v t (ix2 r l) = BitVec.ofBool (cut (col v l) 9 < v (ix2 r l)) := by
  pointwise [k0_pay4]
  simp only [top_bf16, top_f32, h]
  rfl

/-- Rounds ten to sixteen, and the mask of what lies at or under the last threshold. -/
theorem roundsA_16 (mask : IVec S64x256 1)
    (h : ∀ r, mask (ix2 r l) = BitVec.ofBool (cut (col v l) 9 < v (ix2 r l))) (r : Fin 64) :
    k0_pay6 v mask k0_pay5 (ix2 r l) = BitVec.ofBool (v (ix2 r l) ≤ cut (col v l) 16) := by
  pointwise [k0_pay6, k0_pay5]
  simp only [top_bf16, top_f32, h, Scalar.select_ofBool, decide_eq_true_eq]
  rfl

/-- Gaussian weights under that mask, divided by their sum plus 1e-8. -/
theorem normalisedA (d : FVec Ideal S64x256 .f32) (mask : IVec S64x256 1)
    (h : ∀ r, mask (ix2 r l) = BitVec.ofBool (d (ix2 r l) ≤ cut (col d l) 16)) (r : Fin 64) :
    k0_pay7 d mask (ix2 r l)
      = Ideal.div (gauss (Ideal.ofBits .f32 0xC0480000#32) (col d l) r)
          (∑ i, gauss (Ideal.ofBits .f32 0xC0480000#32) (col d l) i + eps) := by
  pointwise [k0_pay7]
  simp only [h, Scalar.select_ofBool, decide_eq_true_eq]
  rfl

/-- Level A's table of weights. -/
def tableA : FVec Ideal S64x256 .f32 :=
  k0_pay7 (k0_pay1 sx dx) (k0_pay6 (k0_pay2 sx dx) (k0_pay4 (k0_pay2 sx dx) (k0_pay3 sx dx)) k0_pay5)

/-- Level A's table of weights holds the normalised Gaussian weights of the nearest points. -/
theorem tableA_apply (r : Fin 64) :
    tableA sx dx (ix2 r l)
      = Ideal.div (gauss (Ideal.ofBits .f32 0xC0480000#32) (dists (fun c s => sx (ix3 0 c s)) (fun c i => dx (ix3 0 c i)) l) r)
          (∑ i, gauss (Ideal.ofBits .f32 0xC0480000#32) (dists (fun c s => sx (ix3 0 c s)) (fun c i => dx (ix3 0 c i)) l) i
            + eps) := by
  rw [← distA]
  exact normalisedA l _ _ (roundsA_16 (k0_pay2 sx dx) l _ (roundsA_9 _ l _ (roundsA_3 sx dx l))) r

end levelA

section levelB

variable (sx : Vec Ideal S1x3x256 .f32) (dx : Vec Ideal S1x3x1024 .f32) (v : FVec Ideal S256x1024 .bf16) (l : Fin 1024)

/-- Level B's table of distances holds the squared distances. -/
theorem distB : col (k0_pay8 sx dx) l = dists (fun c s => sx (ix3 0 c s)) (fun c i => dx (ix3 0 c i)) l := by
  funext r
  simp only [col]
  pointwise [k0_pay8]
  rfl

/-- The first round, and the mask of what lies above the threshold then. -/
theorem roundsB_1 (r : Fin 256) :
    k0_pay10 sx dx (ix2 r l) = BitVec.ofBool (cut (col (k0_pay8 sx dx) l) 1 < k0_pay8 sx dx (ix2 r l)) := by
  pointwise [k0_pay10, k0_pay9]
  simp only [top_bf16, bot_bf16, top_f32]
  rfl

/-- Rounds two to eight. -/
theorem roundsB_8 (mask : IVec S256x1024 1)
    (h : ∀ r, mask (ix2 r l) = BitVec.ofBool (cut (col v l) 1 < v (ix2 r l))) :
    k0_pay11 v mask (Scalar.ofBits .f32 0x7F800000#32) (ix2 0 l) = cut (col v l) 8 := by
  pointwise [k0_pay11]
  simp only [top_bf16, top_f32, h, Scalar.select_ofBool, decide_eq_true_eq]
  rfl

/-- Rounds nine to fourteen, and the distances above the threshold then, the others replaced by `⊤`. -/
theorem roundsB_14 (t : FVec Ideal S1x1024 .bf16) (h : t (ix2 0 l) = cut (col v l) 8) (r : Fin 256) :
    k0_pay12 v t (ix2 r l) = if cut (col v l) 14 < v (ix2 r l) then v (ix2 r l) else ⊤ := by
  pointwise [k0_pay12]
  simp only [top_bf16, top_f32, h]
  rfl

/-- Rounds fifteen and sixteen, and the Gaussian weights under the last threshold, divided by their sum plus 1e-8. -/
theorem normalisedB (d : FVec Ideal S256x1024 .f32) (hv : ∀ r, v (ix2 r l) = d (ix2 r l))
    (above : FVec Ideal S256x1024 .bf16)
    (h : ∀ r, above (ix2 r l) = if cut (col d l) 14 < d (ix2 r l) then d (ix2 r l) else ⊤) (r : Fin 256) :
    k0_pay13 d v above (ix2 r l)
      = Ideal.div (gauss (Ideal.ofBits .f32 0xC1480000#32) (col d l) r)
          (∑ i, gauss (Ideal.ofBits .f32 0xC1480000#32) (col d l) i + eps) := by
  pointwise [k0_pay13]
  simp only [top_bf16, top_f32, h, hv]
  rfl

/-- Level B's table of weights. -/
def tableB : FVec Ideal S256x1024 .f32 :=
  k0_pay13 (k0_pay8 sx dx) (k0_pay9 sx dx)
    (k0_pay12 (k0_pay9 sx dx) (k0_pay11 (k0_pay9 sx dx) (k0_pay10 sx dx) (Scalar.ofBits .f32 0x7F800000#32)))

/-- Level B's table of weights holds the normalised Gaussian weights of the nearest points. -/
theorem tableB_apply (r : Fin 256) :
    tableB sx dx (ix2 r l)
      = Ideal.div (gauss (Ideal.ofBits .f32 0xC1480000#32) (dists (fun c s => sx (ix3 0 c s)) (fun c i => dx (ix3 0 c i)) l) r)
          (∑ i, gauss (Ideal.ofBits .f32 0xC1480000#32) (dists (fun c s => sx (ix3 0 c s)) (fun c i => dx (ix3 0 c i)) l) i
            + eps) := by
  rw [← distB]
  exact normalisedB (k0_pay9 sx dx) l _ (fun _ => rfl) _
    (roundsB_14 _ l _ (roundsB_8 _ l _ (roundsB_1 sx dx l))) r

end levelB

end Cert.KernelIdeal.Weights
-- ==== Proof.Stored.lean ====
/-
  What the kernel's body stores, one entry at a time, over the extended reals: the two levels of the network, one on top
  of the other, with the nearest points picked by threshold.
-/
module

public import proofs.«01_k».proof.Proof.Weights

@[expose] public section

set_option maxRecDepth 16384

noncomputable section

namespace Cert.KernelIdeal.Weights

open Idealize.ShloMosaic Cert.Deconv Cert.KernelIdeal.Gen

variable (x0 : Vec Ideal S1x3x1024 .f32) (x1 : Vec Ideal S1x512x1024 .f32) (x2 : Vec Ideal S1x3x256 .f32)
  (x3 : Vec Ideal S1x512x256 .f32) (x4 : Vec Ideal S1x3x64 .f32) (x5 : Vec Ideal S1x512x64 .f32)
  (x6 : Vec Ideal S512x512 .f32) (x7 : Vec Ideal S512x1 .f32) (x8 : Vec Ideal S512x512 .f32) (x9 : Vec Ideal S512x1 .f32)
  (x10 : Vec Ideal S256x512 .f32) (x11 : Vec Ideal S256x1 .f32) (x12 : Vec Ideal S256x256 .f32) (x13 : Vec Ideal S256x1 .f32)

/-- Level A's first layer on features interpolated with the table `w`. -/
theorem layerA (w : FVec Ideal S64x256 .f32) (h : Fin 512) (l : Fin 256) :
    k0_pay14 w x5 x3 x6 x7 (ix2 h l)
      = layer (fun c => x6 (ix2 h c)) (x7 (ix2 h 0))
          fun c => ∑ j, x5 (ix3 0 c j) * w (ix2 j l) + x3 (ix3 0 c l) := by
  pointwise [k0_pay14]
  rfl

/-- Level A's second layer on `v`, and level B's two layers, on features interpolated with the table `w`. -/
theorem layerB (w : FVec Ideal S256x1024 .f32) (v : FVec Ideal S512x256 .f32) (o : Fin 256) (l : Fin 1024) :
    k0_pay15 w v x8 (constant S512x256 .f32 0x00000000#32) x9 x1 x10 x11 x12 x13 (ix3 0 o l)
      = layer (fun h => x12 (ix2 o h)) (x13 (ix2 o 0))
          fun h => layer (fun c => x10 (ix2 h c)) (x11 (ix2 h 0))
            fun c => ∑ j, layer (fun h' => x8 (ix2 c h')) (x9 (ix2 c 0)) (fun h' => v (ix2 h' j)) * w (ix2 j l)
              + x1 (ix3 0 c l) := by
  pointwise [k0_pay15]
  rfl

/-- The value the body stores, from the blocks it loads. -/
def stored : FVec Ideal S1x256x1024 .f32 :=
  k0_pay15 (tableB x2 x0) (k0_pay14 (tableA x4 x2) x5 x3 x6 x7) x8 (constant S512x256 .f32 0x00000000#32) x9 x1
    x10 x11 x12 x13

/-- The body stores level B's output, whose sparse features are level A's output. -/
theorem stored_apply (o : Fin 256) (l : Fin 1024) :
    stored x0 x1 x2 x3 x4 x5 x6 x7 x8 x9 x10 x11 x12 x13 (ix3 0 o l)
      = deconv (Ideal.ofBits .f32 0xC1480000#32) (fun c s => x2 (ix3 0 c s))
          (deconv (Ideal.ofBits .f32 0xC0480000#32) (fun c s => x4 (ix3 0 c s)) (fun c s => x5 (ix3 0 c s))
            (fun c i => x2 (ix3 0 c i)) (fun c i => x3 (ix3 0 c i))
            (fun o i => x6 (ix2 o i)) (fun o => x7 (ix2 o 0)) (fun o i => x8 (ix2 o i)) (fun o => x9 (ix2 o 0)))
          (fun c i => x0 (ix3 0 c i)) (fun c i => x1 (ix3 0 c i))
          (fun o i => x10 (ix2 o i)) (fun o => x11 (ix2 o 0)) (fun o i => x12 (ix2 o i)) (fun o => x13 (ix2 o 0)) o l := by
  rw [stored, layerB]
  simp only [layerA, tableA_apply, tableB_apply]
  rfl

end Cert.KernelIdeal.Weights
-- ==== Proof.Network.lean ====
/-
  The whole network as plain mathematics: level A from the 64 points of l4 onto the 256 of l3, and level B from those,
  with level A's output for features, onto the 1024 of l2. Once with the nearest points picked by threshold (`network`)
  and once by the sorted listing (`networkSorted`); both as one function of the argument arrays.
-/
module

public import proofs.«01_k».proof.Proof.Deconv
public import Idealize.ShloMosaic.Lib.Pointwise

@[expose] public section

noncomputable section

namespace Cert.Deconv

open Idealize.ShloMosaic

/-- The factor of the squared distance in level A's exponent, -25/8. -/
abbrev rateA : EReal := Ideal.ofBits .f32 0xC0480000#32

/-- The factor of the squared distance in level B's exponent, -25/2. -/
abbrev rateB : EReal := Ideal.ofBits .f32 0xC1480000#32

/-- A matrix of extended reals. -/
abbrev Mat (a b : Nat) := FVec Ideal ⟨2, ![a, b]⟩ .f32

/-- A batch of matrices of extended reals. -/
abbrev Bat (a b c : Nat) := FVec Ideal ⟨3, ![a, b, c]⟩ .f32

/-- A vector of extended reals. -/
abbrev Row (a : Nat) := FVec Ideal ⟨1, ![a]⟩ .f32

/-- Batch `b` of an array, as a function of row and column. -/
abbrev batch {B n k : Nat} (x : Bat B n k) (b : Fin B) (c : Fin n) (s : Fin k) : EReal :=
  x (ix3 b c s)

/-- A matrix as a function of row and column. -/
abbrev entry {n k : Nat} (w : Mat n k) (o : Fin n) (i : Fin k) : EReal := w (ix2 o i)

/-- A vector as a function of its position. -/
abbrev item {n : Nat} (v : Row n) (o : Fin n) : EReal := v (ix1 o)

variable (l2x : Bat 8 3 1024) (l2p : Bat 8 512 1024) (l3x : Bat 8 3 256) (l3p : Bat 8 512 256)
  (l4x : Bat 8 3 64) (l4p : Bat 8 512 64) (W1 : Mat 512 512) (b1 : Row 512) (W2 : Mat 512 512) (b2 : Row 512)
  (W3 : Mat 256 512) (b3 : Row 256) (W4 : Mat 256 256) (b4 : Row 256)

/-- Entry (b, o, i) of the result, the nearest points picked by threshold at both levels. -/
def network (b : Fin 8) : Fin 256 → Fin 1024 → EReal :=
  deconv rateB (batch l3x b)
    (deconv rateA (batch l4x b) (batch l4p b) (batch l3x b) (batch l3p b) (entry W1) (item b1) (entry W2) (item b2))
    (batch l2x b) (batch l2p b) (entry W3) (item b3) (entry W4) (item b4)

/-- Level A's output (b, o, i), the nearest points picked by the sorted listing. -/
def levelSortedA (b : Fin 8) : Fin 512 → Fin 256 → EReal :=
  deconvSorted rateA (batch l4x b) (batch l4p b) (batch l3x b) (batch l3p b) (entry W1) (item b1) (entry W2) (item b2)
    (by norm_num : 16 ≤ 64)

/-- Level B's output (b, o, i) from sparse features `f`, the nearest points picked by the sorted listing. -/
def levelSortedB (f : Fin 512 → Fin 256 → EReal) (b : Fin 8) : Fin 256 → Fin 1024 → EReal :=
  deconvSorted rateB (batch l3x b) f (batch l2x b) (batch l2p b) (entry W3) (item b3) (entry W4) (item b4)
    (by norm_num : 16 ≤ 256)

/-- Where at both levels the nearest seventeen distances from every dense point are pairwise different, the network is
    the same however the nearest points are picked. -/
theorem network_eq (hA : ∀ b i, Distinct (dists (batch l4x b) (batch l3x b) i) (by norm_num : 17 ≤ 64))
    (hB : ∀ b i, Distinct (dists (batch l3x b) (batch l2x b) i) (by norm_num : 17 ≤ 256)) (b : Fin 8) :
    network l2x l2p l3x l3p l4x l4p W1 b1 W2 b2 W3 b3 W4 b4 b
      = levelSortedB l2x l2p l3x W3 b3 W4 b4 (levelSortedA l3x l3p l4x l4p W1 b1 W2 b2 b) b := by
  unfold network levelSortedB levelSortedA
  rw [deconv_eq _ _ _ _ _ _ _ _ _ _ (hB b), deconv_eq _ _ _ _ _ _ _ _ _ _ (hA b)]

end Cert.Deconv
-- ==== Proof.Final.lean ====
/-
  What the kernel's result array holds after a run: the network with the nearest points picked by threshold, of the
  argument arrays as launched. Grid point `t` handles batch `t`; its windows hold batch `t` of the point and feature
  arrays, and the weights and biases whole.
-/
module

public import proofs.«01_k».proof.Proof.Stored
public import proofs.«01_k».proof.Proof.Network
public import proofs.«01_k».proof.Proof.Gen.KernelIdeal.Value
public import Idealize.ShloMosaic.Lib.Pipeline.ValueKit

@[expose] public section

set_option maxRecDepth 16384

noncomputable section

namespace Cert.KernelIdeal.Final

open Cert.KernelIdeal Cert.KernelIdeal.Gen Cert.KernelIdeal.Weights Cert.Deconv
open Idealize.ShloMosaic Idealize.ShloMosaic.TcCoe Idealize.SL.Sem Idealize.ShloMosaic.Pipeline

variable (m : (ℓ : Loc nD τ sig) → Buf (Elt Ideal) ℓ)

/-- The network of device `c`'s argument arrays. -/
def result (c : Dev nD) : Buf (Elt Ideal) ((c : Thread nD τ).loc main_v4) := fun j : S8x256x1024.Idx =>
  network (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) (m ((c : Thread nD τ).loc main_arg15)) (j 0) (j 1) (j 2)

/-! Each window's block at a grid point: batch `t` for the point and feature arrays, the one block for the others. -/

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx14 : ∀ t : Fin cfg0.N, win0_14.index t = ![t.val, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)

variable (c : Dev nD) (t : Fin cfg0.N) (b : Fin 8) (hb : b.val = t.val)

section blocks

include hb

/-! The point and feature windows hold their arrays' batch `t`. -/

theorem block0 (i : Fin 3) (j : Fin 1024) :
    iblk m c 0 t (ix3 0 i j) = m ((c : Thread nD τ).loc main_arg2) (ix3 b i j) := by
  blk_ext! [iblk, V, idx0]

theorem block1 (i : Fin 512) (j : Fin 1024) :
    iblk m c 1 t (ix3 0 i j) = m ((c : Thread nD τ).loc main_arg3) (ix3 b i j) := by
  blk_ext! [iblk, V, idx1]

theorem block2 (i : Fin 3) (j : Fin 256) :
    iblk m c 2 t (ix3 0 i j) = m ((c : Thread nD τ).loc main_arg4) (ix3 b i j) := by
  blk_ext! [iblk, V, idx2]

theorem block3 (i : Fin 512) (j : Fin 256) :
    iblk m c 3 t (ix3 0 i j) = m ((c : Thread nD τ).loc main_arg5) (ix3 b i j) := by
  blk_ext! [iblk, V, idx3]

theorem block4 (i : Fin 3) (j : Fin 64) :
    iblk m c 4 t (ix3 0 i j) = m ((c : Thread nD τ).loc main_arg6) (ix3 b i j) := by
  blk_ext! [iblk, V, idx4]

theorem block5 (i : Fin 512) (j : Fin 64) :
    iblk m c 5 t (ix3 0 i j) = m ((c : Thread nD τ).loc main_arg7) (ix3 b i j) := by
  blk_ext! [iblk, V, idx5]

omit hb

/-! The weight windows hold their matrices, and the bias windows hold their vectors as columns. -/

theorem block6 (i : Fin 512) (j : Fin 512) :
    iblk m c 6 t (ix2 i j) = m ((c : Thread nD τ).loc main_arg8) (ix2 i j) := by
  blk_ext! [iblk, V, idx6]

theorem block7 (i : Fin 512) :
    iblk m c 7 t (ix2 i 0) = m ((c : Thread nD τ).loc main_arg9) (ix1 i) := by
  blk_ext! [iblk, V, idx7]

theorem block8 (i : Fin 512) (j : Fin 512) :
    iblk m c 8 t (ix2 i j) = m ((c : Thread nD τ).loc main_arg10) (ix2 i j) := by
  blk_ext! [iblk, V, idx8]

theorem block9 (i : Fin 512) :
    iblk m c 9 t (ix2 i 0) = m ((c : Thread nD τ).loc main_arg11) (ix1 i) := by
  blk_ext! [iblk, V, idx9]

theorem block10 (i : Fin 256) (j : Fin 512) :
    iblk m c 10 t (ix2 i j) = m ((c : Thread nD τ).loc main_arg12) (ix2 i j) := by
  blk_ext! [iblk, V, idx10]

theorem block11 (i : Fin 256) :
    iblk m c 11 t (ix2 i 0) = m ((c : Thread nD τ).loc main_arg13) (ix1 i) := by
  blk_ext! [iblk, V, idx11]

theorem block12 (i : Fin 256) (j : Fin 256) :
    iblk m c 12 t (ix2 i j) = m ((c : Thread nD τ).loc main_arg14) (ix2 i j) := by
  blk_ext! [iblk, V, idx12]

theorem block13 (i : Fin 256) :
    iblk m c 13 t (ix2 i 0) = m ((c : Thread nD τ).loc main_arg15) (ix1 i) := by
  blk_ext! [iblk, V, idx13]

end blocks

/-- The origin of a three-axis block, as a constant function. -/
theorem zero3 : (![0, 0, 0] : Fin 3 → Nat) = fun _ => 0 := funext fun a => by fin_cases a <;> rfl

/-- The body leaves the stored value of the blocks in its output window's buffer. -/
theorem out_eq (x0 : Vec Ideal S1x3x1024 .f32) (x1 : Vec Ideal S1x512x1024 .f32) (x2 : Vec Ideal S1x3x256 .f32)
    (x3 : Vec Ideal S1x512x256 .f32) (x4 : Vec Ideal S1x3x64 .f32) (x5 : Vec Ideal S1x512x64 .f32)
    (x6 : Vec Ideal S512x512 .f32) (x7 : Vec Ideal S512x1 .f32) (x8 : Vec Ideal S512x512 .f32) (x9 : Vec Ideal S512x1 .f32)
    (x10 : Vec Ideal S256x512 .f32) (x11 : Vec Ideal S256x1 .f32) (x12 : Vec Ideal S256x256 .f32)
    (x13 : Vec Ideal S256x1 .f32) :
    out0_14 x0 x1 x2 x3 x4 x5 x6 x7 x8 x9 x10 x11 x12 x13 = stored x0 x1 x2 x3 x4 x5 x6 x7 x8 x9 x10 x11 x12 x13 := by
  have tableA_lower : k0_pay16 x0 x1 x2 x3 x4 x5 x6 x7 x8 x9 x10 x11 x12 x13 = k0_pay2 x4 x2 := by
    unfold k0_pay16
    rw [View.ld_unit_zero zero3, View.ld_unit_zero zero3]
  have tableB_lower : k0_pay17 x0 x1 x2 x3 x4 x5 x6 x7 x8 x9 x10 x11 x12 x13 = k0_pay9 x2 x0 := by
    unfold k0_pay17
    rw [View.ld_unit_zero zero3, View.ld_unit_zero zero3]
  frame_out
  rw [tableA_lower, tableB_lower]
  unfold stored tableA tableB
  with_reducible rfl

/-- The result array after the run is the network of the arguments as launched. -/
theorem final : (dats m 0 c).arrAt 14 cfg0.N = result m c := by
  refine (dats m 0 c).arrAt_eq_of_covers 14 _ (by decide +kernel) fun t hf y => ?_
  blk_simp
  rw [after0_14, out_eq]
  idx_vars y
  obtain rfl : y0 = 0 := Subsingleton.elim _ _
  have emb : ((View.whole main_v4).slice (win0_14.rect t)).emb (ix3 0 y1 y2) = ix3 (t.cast N_0) y1 y2 := by
    blk_ext [idx14, Fin.val_cast]
  rw [emb, stored_apply]
  simp only [block0 m c t (t.cast N_0) rfl, block1 m c t (t.cast N_0) rfl, block2 m c t (t.cast N_0) rfl,
    block3 m c t (t.cast N_0) rfl, block4 m c t (t.cast N_0) rfl, block5 m c t (t.cast N_0) rfl, block6, block7, block8,
    block9, block10, block11, block12, block13]
  rfl

end Cert.KernelIdeal.Final
-- ==== Proof.Axes.lean ====
/-
  The reference's shape operations read at an index, for any sizes: every repeat along an axis, every sum over one axis,
  the reshapes that move or drop an axis of one, and the two shapes of matrix product. Each says which entry of the
  operand, or which sum of entries, an entry of the result is; both levels of the network use the same statements.
-/
module

public import proofs.«01_k».proof.Proof.Network

@[expose] public section

noncomputable section

namespace Cert.Deconv

open Idealize.ShloMosaic

variable {α : Type} {A B C D : Nat}

section repeats

/-- A repeat along axes reads the operand at any index that agrees on the axes that are not of length one. -/
theorem repeat_at {s t : Shape} {dims : Fin s.rank → Fin t.rank} (h : s.BroadcastsInDim t dims) (x : s.Idx → α)
    (j : t.Idx) (y : s.Idx) (hy : ∀ a, s.size a ≠ 1 → (y a).val = (j (dims a)).val) :
    broadcastInDim t dims h x j = x y := by
  unfold broadcastInDim
  congr 1
  funext a
  refine Fin.ext ?_
  split
  · have := (y a).isLt
    simp only
    omega
  · next h1 => exact (hy a h1).symm

/-- A matrix per batch as a column at the end. -/
theorem repeat_01 (h : (⟨2, ![A, B]⟩ : Shape).BroadcastsInDim ⟨3, ![A, B, 1]⟩ (![0, 1] : Fin 2 → Fin 3))
    (x : (⟨2, ![A, B]⟩ : Shape).Idx → α) (i : Fin A) (j : Fin B) (k : Fin 1) :
    broadcastInDim ⟨3, ![A, B, 1]⟩ ![0, 1] h x (ix3 i j k) = x (ix2 i j) :=
  repeat_at h x _ _ fun a _ => match a with | ⟨0, _⟩ => rfl | ⟨1, _⟩ => rfl

/-- A matrix with an axis of one put in the middle. -/
theorem repeat_02 (h : (⟨2, ![A, C]⟩ : Shape).BroadcastsInDim ⟨3, ![A, 1, C]⟩ (![0, 2] : Fin 2 → Fin 3))
    (x : (⟨2, ![A, C]⟩ : Shape).Idx → α) (i : Fin A) (j : Fin 1) (k : Fin C) :
    broadcastInDim ⟨3, ![A, 1, C]⟩ ![0, 2] h x (ix3 i j k) = x (ix2 i k) :=
  repeat_at h x _ _ fun a _ => match a with | ⟨0, _⟩ => rfl | ⟨1, _⟩ => rfl

/-- A repeat along the last axis. -/
theorem repeat_last (h : (⟨3, ![A, B, 1]⟩ : Shape).BroadcastsInDim ⟨3, ![A, B, C]⟩ (![0, 1, 2] : Fin 3 → Fin 3))
    (x : (⟨3, ![A, B, 1]⟩ : Shape).Idx → α) (i : Fin A) (j : Fin B) (k : Fin C) :
    broadcastInDim ⟨3, ![A, B, C]⟩ ![0, 1, 2] h x (ix3 i j k) = x (ix3 i j 0) :=
  repeat_at h x _ _ fun a ha => match a with | ⟨0, _⟩ => rfl | ⟨1, _⟩ => rfl | ⟨2, _⟩ => absurd rfl ha

/-- A repeat along the middle axis. -/
theorem repeat_mid (h : (⟨3, ![A, 1, C]⟩ : Shape).BroadcastsInDim ⟨3, ![A, B, C]⟩ (![0, 1, 2] : Fin 3 → Fin 3))
    (x : (⟨3, ![A, 1, C]⟩ : Shape).Idx → α) (i : Fin A) (j : Fin B) (k : Fin C) :
    broadcastInDim ⟨3, ![A, B, C]⟩ ![0, 1, 2] h x (ix3 i j k) = x (ix3 i 0 k) :=
  repeat_at h x _ _ fun a ha => match a with | ⟨0, _⟩ => rfl | ⟨1, _⟩ => absurd rfl ha | ⟨2, _⟩ => rfl

/-- A vector as the middle axis of three. -/
theorem repeat_1 (h : (⟨1, ![B]⟩ : Shape).BroadcastsInDim ⟨3, ![1, B, 1]⟩ (![1] : Fin 1 → Fin 3))
    (x : (⟨1, ![B]⟩ : Shape).Idx → α) (i : Fin 1) (j : Fin B) (k : Fin 1) :
    broadcastInDim ⟨3, ![1, B, 1]⟩ ![1] h x (ix3 i j k) = x (ix1 j) :=
  repeat_at h x _ _ fun a _ => match a with | ⟨0, _⟩ => rfl

/-- A repeat along the first and the last axis. -/
theorem repeat_ends (h : (⟨3, ![1, B, 1]⟩ : Shape).BroadcastsInDim ⟨3, ![A, B, C]⟩ (![0, 1, 2] : Fin 3 → Fin 3))
    (x : (⟨3, ![1, B, 1]⟩ : Shape).Idx → α) (i : Fin A) (j : Fin B) (k : Fin C) :
    broadcastInDim ⟨3, ![A, B, C]⟩ ![0, 1, 2] h x (ix3 i j k) = x (ix3 0 j 0) :=
  repeat_at h x _ _ fun a ha => match a with | ⟨0, _⟩ => absurd rfl ha | ⟨1, _⟩ => rfl | ⟨2, _⟩ => absurd rfl ha

/-- A batch of matrices with a second axis put in, and repeated along it. -/
theorem repeat_023 (h : (⟨3, ![A, C, D]⟩ : Shape).BroadcastsInDim ⟨4, ![A, B, C, D]⟩ (![0, 2, 3] : Fin 3 → Fin 4))
    (x : (⟨3, ![A, C, D]⟩ : Shape).Idx → α) (i : Fin A) (j : Fin B) (k : Fin C) (l : Fin D) :
    broadcastInDim ⟨4, ![A, B, C, D]⟩ ![0, 2, 3] h x (ix4 i j k l) = x (ix3 i k l) :=
  repeat_at h x _ _ fun a _ => match a with | ⟨0, _⟩ => rfl | ⟨1, _⟩ => rfl | ⟨2, _⟩ => rfl

/-- A batch of matrices with a third axis put in, and repeated along it. -/
theorem repeat_013 (h : (⟨3, ![A, B, D]⟩ : Shape).BroadcastsInDim ⟨4, ![A, B, C, D]⟩ (![0, 1, 3] : Fin 3 → Fin 4))
    (x : (⟨3, ![A, B, D]⟩ : Shape).Idx → α) (i : Fin A) (j : Fin B) (k : Fin C) (l : Fin D) :
    broadcastInDim ⟨4, ![A, B, C, D]⟩ ![0, 1, 3] h x (ix4 i j k l) = x (ix3 i j l) :=
  repeat_at h x _ _ fun a _ => match a with | ⟨0, _⟩ => rfl | ⟨1, _⟩ => rfl | ⟨2, _⟩ => rfl

/-- A repeat along the second of four axes. -/
theorem repeat_second
    (h : (⟨4, ![A, 1, C, D]⟩ : Shape).BroadcastsInDim ⟨4, ![A, B, C, D]⟩ (![0, 1, 2, 3] : Fin 4 → Fin 4))
    (x : (⟨4, ![A, 1, C, D]⟩ : Shape).Idx → α) (i : Fin A) (j : Fin B) (k : Fin C) (l : Fin D) :
    broadcastInDim ⟨4, ![A, B, C, D]⟩ ![0, 1, 2, 3] h x (ix4 i j k l) = x (ix4 i 0 k l) :=
  repeat_at h x _ _ fun a ha =>
    match a with | ⟨0, _⟩ => rfl | ⟨1, _⟩ => absurd rfl ha | ⟨2, _⟩ => rfl | ⟨3, _⟩ => rfl

end repeats

section reshapes

/-- Dropping the third axis, of length one. -/
theorem drop_third (h : (⟨4, ![A, B, 1, D]⟩ : Shape).ShapeCasts ⟨3, ![A, B, D]⟩)
    (x : (⟨4, ![A, B, 1, D]⟩ : Shape).Idx → α) (i : Fin A) (j : Fin B) (l : Fin D) :
    shapeCast ⟨3, ![A, B, D]⟩ x h (ix3 i j l) = x (ix4 i j 0 l) :=
  congrArg x (Shape.reshapeEquiv_eq_of_rowMajor h (by
    rw [Shape.rowMajor_val_four, Shape.rowMajor_val_three]
    show ((i.val * B + j.val) * 1 + 0) * D + l.val = (i.val * B + j.val) * D + l.val
    rw [Nat.mul_one, Nat.add_zero]))

/-- Moving the second axis, of length one, to the end. -/
theorem second_to_end (h : (⟨4, ![A, 1, C, D]⟩ : Shape).ShapeCasts ⟨4, ![A, C, D, 1]⟩)
    (x : (⟨4, ![A, 1, C, D]⟩ : Shape).Idx → α) (i : Fin A) (k : Fin C) (l : Fin D) (z : Fin 1) :
    shapeCast ⟨4, ![A, C, D, 1]⟩ x h (ix4 i k l z) = x (ix4 i 0 k l) :=
  congrArg x (Shape.reshapeEquiv_eq_of_rowMajor h (by
    rw [Shape.rowMajor_val_four, Shape.rowMajor_val_four]
    show ((i.val * 1 + 0) * C + k.val) * D + l.val = ((i.val * C + k.val) * D + l.val) * 1 + z.val
    have := z.isLt
    rw [Nat.mul_one, Nat.add_zero, Nat.mul_one]
    omega))

/-- Exchanging the last two axes. -/
theorem exchange (h : (⟨3, ![A, B, C]⟩ : Shape).Transposes [0, 2, 1] ⟨3, ![A, C, B]⟩)
    (x : (⟨3, ![A, B, C]⟩ : Shape).Idx → α) (i : Fin A) (k : Fin C) (j : Fin B) :
    transpose ⟨3, ![A, C, B]⟩ [0, 2, 1] x h (ix3 i k j) = x (ix3 i j k) := by
  unfold transpose
  congr 1
  funext a
  match a with
  | ⟨0, _⟩ => rfl
  | ⟨1, _⟩ => rfl
  | ⟨2, _⟩ => rfl

end reshapes

section sums

variable (h0 : 0 < (⟨0, ![]⟩ : Shape).numel)

/-- The sum over the middle of three axes. -/
theorem sum_mid (x : Bat A B C) (h : (⟨3, ![A, B, C]⟩ : Shape).ReducesTo [1] ⟨2, ![A, C]⟩) (i : Fin A) (k : Fin C) :
    Host.reduceAdd x (constant ⟨0, ![]⟩ .f32 0x00000000#32) h h0 (ix2 i k) = ∑ j : Fin B, x (ix3 i j k) := by
  pointwise

/-- The sum over the last of three axes. -/
theorem sum_last (x : Bat A B C) (h : (⟨3, ![A, B, C]⟩ : Shape).ReducesTo [2] ⟨2, ![A, B]⟩) (i : Fin A) (j : Fin B) :
    Host.reduceAdd x (constant ⟨0, ![]⟩ .f32 0x00000000#32) h h0 (ix2 i j) = ∑ k : Fin C, x (ix3 i j k) := by
  pointwise

/-- The sum over the last of four axes. -/
theorem sum_fourth (x : FVec Ideal ⟨4, ![A, B, C, D]⟩ .f32)
    (h : (⟨4, ![A, B, C, D]⟩ : Shape).ReducesTo [3] ⟨3, ![A, B, C]⟩) (i : Fin A) (j : Fin B) (k : Fin C) :
    Host.reduceAdd x (constant ⟨0, ![]⟩ .f32 0x00000000#32) h h0 (ix3 i j k) = ∑ l : Fin D, x (ix4 i j k l) := by
  pointwise

end sums

section products

/-- Dimension numbers of the product of two batches of matrices along their rows. -/
abbrev pairDims
    (wf : DotDims.WF ⟨3, ![A, B, C]⟩ ⟨3, ![A, B, D]⟩ ⟨3, ![A, C, D]⟩ [1] [1] [2] [2] [0] [0]) :
    DotDims ⟨3, ![A, B, C]⟩ ⟨3, ![A, B, D]⟩ ⟨3, ![A, C, D]⟩ :=
  { lhsContracting := [1], rhsContracting := [1], lhsNonContracting := [2], rhsNonContracting := [2], lhsBatch := [0],
    rhsBatch := [0], wf := wf }

/-- Entry (i, k, l) of the batched product is the dot of column `k` of `x` with column `l` of `y`, in batch `i`. -/
theorem pairDims_at (wf) (x : Bat A B C) (y : Bat A B D) (i : Fin A) (k : Fin C) (l : Fin D) :
    Host.dotGeneral (F := Ideal) (φ₁ := .f32) (φ₂ := .f32) (pairDims wf) none x y (ix3 i k l)
      = ∑ j : Fin B, x (ix3 i j k) * y (ix3 i j l) := by
  refine (Ideal.matmul_apply₁ (pairDims wf) (a := 1) (K := B) rfl rfl _ _ _ _).trans ((zero_add _).trans ?_)
  refine Finset.sum_congr rfl fun j _ => congrArg₂ (· * ·) (congrArg x (funext fun a => ?_))
    (congrArg y (funext fun a => ?_))
  · match a with | ⟨0, _⟩ => rfl | ⟨1, _⟩ => rfl | ⟨2, _⟩ => rfl
  · match a with | ⟨0, _⟩ => rfl | ⟨1, _⟩ => rfl | ⟨2, _⟩ => rfl

/-- Dimension numbers of the product of a batch of matrices, along their rows, with one matrix. -/
abbrev mixDims
    (wf : DotDims.WF ⟨3, ![A, B, C]⟩ ⟨2, ![D, B]⟩ ⟨3, ![A, C, D]⟩ [1] [1] [0, 2] [0] [] []) :
    DotDims ⟨3, ![A, B, C]⟩ ⟨2, ![D, B]⟩ ⟨3, ![A, C, D]⟩ :=
  { lhsContracting := [1], rhsContracting := [1], lhsNonContracting := [0, 2], rhsNonContracting := [0], lhsBatch := [],
    rhsBatch := [], wf := wf }

/-- Entry (i, k, l) of the product is the dot of column `k` of `x`, in batch `i`, with row `l` of `w`. -/
theorem mixDims_at (wf) (x : Bat A B C) (w : Mat D B) (i : Fin A) (k : Fin C) (l : Fin D) :
    Host.dotGeneral (F := Ideal) (φ₁ := .f32) (φ₂ := .f32) (mixDims wf) none x w (ix3 i k l)
      = ∑ j : Fin B, x (ix3 i j k) * w (ix2 l j) := by
  refine (Ideal.matmul_apply₁ (mixDims wf) (a := 1) (K := B) rfl rfl _ _ _ _).trans ((zero_add _).trans ?_)
  refine Finset.sum_congr rfl fun j _ => congrArg₂ (· * ·) (congrArg x (funext fun a => ?_))
    (congrArg w (funext fun a => ?_))
  · match a with | ⟨0, _⟩ => rfl | ⟨1, _⟩ => rfl | ⟨2, _⟩ => rfl
  · match a with | ⟨0, _⟩ => rfl | ⟨1, _⟩ => rfl

end products

end Cert.Deconv

end
-- ==== Proof.Gather.lean ====
/-
  Taking features along the last axis, one listing of positions per batch and point: the gather the reference's
  `take_along_axis` comes down to, read at an index, for any sizes; and the wrapping and the range check around it, which
  change nothing where every position is in range.
-/
module

public import Idealize.ShloMosaic.Lib.Pointwise
public import Idealize.ShloMosaic.Lib.ReduceAll

@[expose] public section

namespace Cert.Deconv

open Idealize.ShloMosaic

section gather

variable {α : Type} {B C N R K : Nat}

/-- The gather's dimension numbers: axis 0 of the features is the batch, axis 1 is kept whole, axis 2 is indexed. -/
abbrev alongDims
    (wf : GatherDims.WF ⟨3, ![B, C, N]⟩ ⟨4, ![B, R, K, 1]⟩ ⟨4, ![B, C, R, K]⟩ [1] [2] [0] [2] [0] 3 ![1, C, 1]) :
    GatherDims ⟨3, ![B, C, N]⟩ ⟨4, ![B, R, K, 1]⟩ ⟨4, ![B, C, R, K]⟩ :=
  { offsetDims := [1], collapsedSliceDims := [2], operandBatchingDims := [0], startIndicesBatchingDims := [0],
    startIndexMap := [2], indexVectorDim := 3, sliceSizes := ![1, C, 1], wf := wf }

/-- The gathered entry (b, c, r, k) is the feature (b, c) at the position listed at (b, r, k), when that is in range. -/
theorem gather_along
    (wf : GatherDims.WF ⟨3, ![B, C, N]⟩ ⟨4, ![B, R, K, 1]⟩ ⟨4, ![B, C, R, K]⟩ [1] [2] [0] [2] [0] 3 ![1, C, 1])
    (x : (⟨3, ![B, C, N]⟩ : Shape).Idx → α) (idx : IVec ⟨4, ![B, R, K, 1]⟩ 32) (b : Fin B) (c : Fin C) (r : Fin R)
    (k : Fin K) (p : Fin N) (hp : (idx (ix4 b r k 0)).toInt = p.val) :
    Host.gather (alongDims wf) x idx (ix4 b c r k) = x (ix3 b c p) := by
  unfold Host.gather
  congr 1
  funext a
  refine Fin.ext ?_
  show (alongDims wf).start _ idx a + (alongDims wf).batchCoord _ a + (alongDims wf).offCoord _ a = _
  match a with
  | ⟨0, _⟩ =>
    rw [GatherDims.start_batching _ _ _ _ (show (0 : Fin 3) ∈ [(0 : Fin 3)] by decide),
      GatherDims.offCoord_eq_zero _ _ _ (fun h => absurd (show (0 : Fin 3) ∈ [(0 : Fin 3)] by decide)
        ((GatherDims.mem_sKept _ _).1 h).2)]
    unfold GatherDims.batchCoord
    erw [dif_pos (show (0 : Fin 3) ∈ [(0 : Fin 3)] by decide)]
    simp only [Nat.zero_add, Nat.add_zero]
    rfl
  | ⟨1, _⟩ =>
    rw [GatherDims.batchCoord_eq_zero _ _ _ (show (1 : Fin 3) ∉ [(0 : Fin 3)] by decide)]
    unfold GatherDims.start
    erw [dif_neg (show (1 : Fin 3) ∉ [(2 : Fin 3)] by decide)]
    simp only [Nat.zero_add]
    unfold GatherDims.offCoord
    erw [dif_pos ((GatherDims.mem_sKept _ _).2 ⟨show (1 : Fin 3) ∉ [(2 : Fin 3)] by decide,
      show (1 : Fin 3) ∉ [(0 : Fin 3)] by decide⟩)]
    rfl
  | ⟨2, _⟩ =>
    rw [GatherDims.batchCoord_eq_zero _ _ _ (show (2 : Fin 3) ∉ [(0 : Fin 3)] by decide),
      GatherDims.offCoord_eq_zero _ _ _ (fun h => absurd (show (2 : Fin 3) ∈ [(2 : Fin 3)] by decide)
        ((GatherDims.mem_sKept _ _).1 h).1)]
    simp only [Nat.add_zero]
    unfold GatherDims.start
    erw [dif_pos (show (2 : Fin 3) ∈ [(2 : Fin 3)] by decide)]
    have hsi : ∀ h, (alongDims wf).siIdx (ix4 b c r k) ⟨List.idxOf (2 : Fin 3) (alongDims wf).startIndexMap, h⟩
        = ix4 b r k 0 := by
      intro h
      funext b; refine Fin.ext ?_
      match b with
      | ⟨0, _⟩ => rfl
      | ⟨1, _⟩ => rfl
      | ⟨2, _⟩ => rfl
      | ⟨3, _⟩ => rfl
    erw [hsi, hp]
    show min p.val (N - 1) = p.val
    omega

end gather

end Cert.Deconv
-- ==== Proof.Level.lean ====
/-
  One level of the reference, for any sizes: the program text of its stages, each read at an index. Both levels, and the
  two layers of each, are instances of what is stated here.
-/
module

public import proofs.«01_k».proof.Proof.Axes
public import proofs.«01_k».proof.Proof.Gather

@[expose] public section

noncomputable section

namespace Cert.Deconv

open Idealize.ShloMosaic

variable {B Nd Ns C H : Nat}

/-- A scalar holding the f32 word `w`. -/
abbrev scalar (w : BitVec 32) : FVec Ideal ⟨0, ![]⟩ .f32 := constant ⟨0, ![]⟩ .f32 w

section distances

/-- The shape relations the table of distances rests on. -/
structure DistFacts (B Nd Ns : Nat) : Prop where
  pos : 0 < (⟨0, ![]⟩ : Shape).numel
  sumDense : (⟨3, ![B, 3, Nd]⟩ : Shape).ReducesTo [1] ⟨2, ![B, Nd]⟩
  sumSparse : (⟨3, ![B, 3, Ns]⟩ : Shape).ReducesTo [1] ⟨2, ![B, Ns]⟩
  column : (⟨2, ![B, Nd]⟩ : Shape).BroadcastsInDim ⟨3, ![B, Nd, 1]⟩ (![0, 1] : Fin 2 → Fin 3)
  row : (⟨2, ![B, Ns]⟩ : Shape).BroadcastsInDim ⟨3, ![B, 1, Ns]⟩ (![0, 2] : Fin 2 → Fin 3)
  columns : (⟨3, ![B, Nd, 1]⟩ : Shape).BroadcastsInDim ⟨3, ![B, Nd, Ns]⟩ (![0, 1, 2] : Fin 3 → Fin 3)
  rows : (⟨3, ![B, 1, Ns]⟩ : Shape).BroadcastsInDim ⟨3, ![B, Nd, Ns]⟩ (![0, 1, 2] : Fin 3 → Fin 3)
  fill : (⟨0, ![]⟩ : Shape).BroadcastsInDim ⟨3, ![B, Nd, Ns]⟩ (![] : Fin 0 → Fin 3)
  dot : DotDims.WF ⟨3, ![B, 3, Nd]⟩ ⟨3, ![B, 3, Ns]⟩ ⟨3, ![B, Nd, Ns]⟩ [1] [1] [2] [2] [0] [0]

/-- The negated squared distances, from every dense point to every sparse point. -/
def negDist (L : DistFacts B Nd Ns) (dx : Bat B 3 Nd) (sx : Bat B 3 Ns) : Bat B Nd Ns :=
  Host.negf (maximumf (subf
    (addf
      (broadcastInDim ⟨3, ![B, Nd, Ns]⟩ ![0, 1, 2] L.columns
        (broadcastInDim ⟨3, ![B, Nd, 1]⟩ ![0, 1] L.column
          (Host.reduceAdd (mulf dx dx) (scalar 0x00000000#32) L.sumDense L.pos)))
      (broadcastInDim ⟨3, ![B, Nd, Ns]⟩ ![0, 1, 2] L.rows
        (broadcastInDim ⟨3, ![B, 1, Ns]⟩ ![0, 2] L.row
          (Host.reduceAdd (mulf sx sx) (scalar 0x00000000#32) L.sumSparse L.pos))))
    (mulf (broadcastInDim ⟨3, ![B, Nd, Ns]⟩ ![] L.fill (scalar 0x40000000#32))
      (Host.dotGeneral (pairDims L.dot) none dx sx)))
    (broadcastInDim ⟨3, ![B, Nd, Ns]⟩ ![] L.fill (scalar 0x00000000#32)))

/-- Entry (b, i, s) is the negated squared distance from dense point `i` to sparse point `s`, in batch `b`. -/
theorem negDist_at (L : DistFacts B Nd Ns) (dx : Bat B 3 Nd) (sx : Bat B 3 Ns) (b : Fin B) (i : Fin Nd) (s : Fin Ns) :
    negDist L dx sx (ix3 b i s) = -dists (batch sx b) (batch dx b) i s := by
  refine congrArg Neg.neg (congrArg₂ max (congrArg₂ (· - ·) ?_ (congrArg (two * ·) ?_)) Ideal.ofBits_zero_f32)
  · refine (add_comm _ _).trans (congrArg₂ (· + ·) ?_ ?_)
    · exact (repeat_mid ..).trans ((repeat_02 ..).trans (sum_mid ..))
    · exact (repeat_last ..).trans ((repeat_01 ..).trans (sum_mid ..))
  · exact (pairDims_at ..).trans (Finset.sum_congr rfl fun c _ => mul_comm _ _)

/-- The fibre through a dense point is the negated distances from it. -/
theorem fibre_negDist (L : DistFacts B Nd Ns) (dx : Bat B 3 Nd) (sx : Bat B 3 Ns) (b : Fin B) (i : Fin Nd) :
    fibre (negDist L dx sx) b i = fun s => -dists (batch sx b) (batch dx b) i s :=
  funext fun s => negDist_at L dx sx b i s

end distances

section layers

/-- The shape relations a layer rests on. -/
structure LayerFacts (B C H N : Nat) : Prop where
  dot : DotDims.WF ⟨3, ![B, C, N]⟩ ⟨2, ![H, C]⟩ ⟨3, ![B, N, H]⟩ [1] [1] [0, 2] [0] [] []
  swap : (⟨3, ![B, N, H]⟩ : Shape).Transposes [0, 2, 1] ⟨3, ![B, H, N]⟩
  bias : (⟨1, ![H]⟩ : Shape).BroadcastsInDim ⟨3, ![1, H, 1]⟩ (![1] : Fin 1 → Fin 3)
  biases : (⟨3, ![1, H, 1]⟩ : Shape).BroadcastsInDim ⟨3, ![B, H, N]⟩ (![0, 1, 2] : Fin 3 → Fin 3)
  fill : (⟨0, ![]⟩ : Shape).BroadcastsInDim ⟨3, ![B, H, N]⟩ (![] : Fin 0 → Fin 3)

/-- One layer over every point of every batch. -/
def layers (L : LayerFacts B C H Nd) (x : Bat B C Nd) (w : Mat H C) (v : Row H) : Bat B H Nd :=
  maximumf (addf
    (transpose ⟨3, ![B, H, Nd]⟩ [0, 2, 1] (Host.dotGeneral (mixDims L.dot) none x w) L.swap)
    (broadcastInDim ⟨3, ![B, H, Nd]⟩ ![0, 1, 2] L.biases (broadcastInDim ⟨3, ![1, H, 1]⟩ ![1] L.bias v)))
    (broadcastInDim ⟨3, ![B, H, Nd]⟩ ![] L.fill (scalar 0x00000000#32))

/-- Entry (b, o, i) is one output of the layer, of point `i`'s features in batch `b`. -/
theorem layers_at (L : LayerFacts B C H Nd) (x : Bat B C Nd) (w : Mat H C) (v : Row H) (b : Fin B) (o : Fin H)
    (i : Fin Nd) : layers L x w v (ix3 b o i) = layer (entry w o) (item v o) fun c => x (ix3 b c i) := by
  refine congrArg₂ max (congrArg₂ (· + ·) ?_ ?_) Ideal.ofBits_zero_f32
  · exact (exchange ..).trans ((mixDims_at ..).trans (Finset.sum_congr rfl fun c _ => mul_comm _ _))
  · exact (repeat_ends ..).trans (repeat_1 ..)

end layers

section weights

/-- The shape relations the weights rest on. -/
structure WeightFacts (B N : Nat) : Prop where
  pos : 0 < (⟨0, ![]⟩ : Shape).numel
  fill : (⟨0, ![]⟩ : Shape).BroadcastsInDim ⟨3, ![B, N, 16]⟩ (![] : Fin 0 → Fin 3)
  sum : (⟨3, ![B, N, 16]⟩ : Shape).ReducesTo [2] ⟨2, ![B, N]⟩
  column : (⟨2, ![B, N]⟩ : Shape).BroadcastsInDim ⟨3, ![B, N, 1]⟩ (![0, 1] : Fin 2 → Fin 3)
  fillColumn : (⟨0, ![]⟩ : Shape).BroadcastsInDim ⟨3, ![B, N, 1]⟩ (![] : Fin 0 → Fin 3)
  columns : (⟨3, ![B, N, 1]⟩ : Shape).BroadcastsInDim ⟨3, ![B, N, 16]⟩ (![0, 1, 2] : Fin 3 → Fin 3)

/-- The bandwidth: the level's word over twenty. -/
def bandwidth (w : BitVec 32) : FVec Ideal ⟨0, ![]⟩ .f32 :=
  mulf (scalar w) (Host.divf (scalar 0x3F800000#32) (scalar 0x41A00000#32))

/-- The Gaussians of the nearest sixteen distances, from the listed values (the negated distances). -/
def gaussians (L : WeightFacts B Nd) (w : BitVec 32) (v : Bat B Nd 16) : Bat B Nd 16 :=
  Host.exp (Host.divf (Host.negf (Host.negf v)) (broadcastInDim ⟨3, ![B, Nd, 16]⟩ ![] L.fill
    (mulf (mulf (scalar 0x40000000#32) (bandwidth w)) (bandwidth w))))

/-- Those divided by their sum plus 1e-8. -/
def weights (L : WeightFacts B Nd) (w : BitVec 32) (v : Bat B Nd 16) : Bat B Nd 16 :=
  Host.divf (gaussians L w v) (broadcastInDim ⟨3, ![B, Nd, 16]⟩ ![0, 1, 2] L.columns (addf
    (broadcastInDim ⟨3, ![B, Nd, 1]⟩ ![0, 1] L.column
      (Host.reduceAdd (gaussians L w v) (scalar 0x00000000#32) L.sum L.pos))
    (broadcastInDim ⟨3, ![B, Nd, 1]⟩ ![] L.fillColumn (scalar 0x322BCC77#32))))

/-- The divisor of the exponent, `2 · h²` with `h` the level's word over twenty. -/
abbrev divisor (w : BitVec 32) : EReal :=
  let h := Ideal.ofBits .f32 w * Ideal.div (Ideal.ofBits .f32 0x3F800000#32) (Ideal.ofBits .f32 0x41A00000#32)
  two * h * h

/-- Dividing by `q` and changing sign is multiplying by the rate `r`. -/
def Rate (w : BitVec 32) (r : EReal) : Prop := ∀ d : EReal, Ideal.div (-d) (divisor w) = d * r

/-- For a real `h` twenty times less than the word, the rate is `-1 / (2 · h²)`. -/
theorem rate_of (w : BitVec 32) (r : EReal) (a : ℝ) (ha : a ≠ 0) (hw : Ideal.ofBits .f32 w = (a : EReal))
    (hr : r = ((-(200 / (a * a)) : ℝ) : EReal)) : Rate w r := by
  intro d
  have hq : divisor w = ((a * a / 200 : ℝ) : EReal) := by
    simp only [divisor, hw, two, two_f32, twenty_f32, Ideal.ofBits_one_f32, Ideal.div]
    rw [if_neg (by norm_num), one_mul, ← EReal.coe_inv, ← EReal.coe_mul, ← EReal.coe_mul, ← EReal.coe_mul]
    congr 1
    ring
  rw [hq, hr, Ideal.div, if_neg (by exact_mod_cast by positivity), ← EReal.coe_inv, EReal.neg_mul, ← mul_neg,
    ← EReal.coe_neg, inv_div]

/-- The Gaussian of a listed distance is the exponential of that distance times the rate. -/
theorem gaussians_at (L : WeightFacts B Nd) (w : BitVec 32) (r : EReal) (hr : Rate w r) (v : Bat B Nd 16) (b : Fin B)
    (i : Fin Nd) (k : Fin 16) (d : EReal) (hv : v (ix3 b i k) = -d) :
    gaussians L w v (ix3 b i k) = Ideal.exp (d * r) := by
  refine congrArg Ideal.exp ((congrArg (fun e => Ideal.div (- -e) (divisor w)) hv).trans ?_)
  rw [neg_neg, hr]

/-- A weight is its Gaussian over the sum of the sixteen Gaussians plus 1e-8. -/
theorem weights_at (L : WeightFacts B Nd) (w : BitVec 32) (r : EReal) (hr : Rate w r) (v : Bat B Nd 16) (b : Fin B)
    (i : Fin Nd) (d : Fin 16 → EReal) (hv : ∀ k, v (ix3 b i k) = -d k) (k : Fin 16) :
    weights L w v (ix3 b i k) = Ideal.div (Ideal.exp (d k * r)) (∑ k, Ideal.exp (d k * r) + eps) := by
  refine congrArg₂ Ideal.div (gaussians_at L w r hr v b i k _ (hv k)) ((repeat_last ..).trans
    (congrArg (· + eps) ((repeat_01 ..).trans ((sum_last ..).trans ?_))))
  exact Finset.sum_congr rfl fun k _ => gaussians_at L w r hr v b i k _ (hv k)

end weights

section features

/-- The shape relations the gathered features rest on. -/
structure GatherFacts (B C Nd Ns : Nat) : Prop where
  pos : 0 < (⟨0, ![]⟩ : Shape).numel
  second : (⟨3, ![B, Nd, 16]⟩ : Shape).BroadcastsInDim ⟨4, ![B, 1, Nd, 16]⟩ (![0, 2, 3] : Fin 3 → Fin 4)
  fillSecond : (⟨0, ![]⟩ : Shape).BroadcastsInDim ⟨4, ![B, 1, Nd, 16]⟩ (![] : Fin 0 → Fin 4)
  toEnd : (⟨4, ![B, 1, Nd, 16]⟩ : Shape).ShapeCasts ⟨4, ![B, Nd, 16, 1]⟩
  fillEnd : (⟨0, ![]⟩ : Shape).BroadcastsInDim ⟨4, ![B, Nd, 16, 1]⟩ (![] : Fin 0 → Fin 4)
  one : (⟨1, ![1]⟩ : Shape).BroadcastsInDim ⟨4, ![1, 1, 1, 1]⟩ (![3] : Fin 1 → Fin 4)
  ones : (⟨4, ![1, 1, 1, 1]⟩ : Shape).BroadcastsInDim ⟨4, ![B, Nd, 16, 1]⟩ (![0, 1, 2, 3] : Fin 4 → Fin 4)
  all : (⟨4, ![B, Nd, 16, 1]⟩ : Shape).ReducesTo [3] ⟨3, ![B, Nd, 16]⟩
  third : (⟨3, ![B, C, Ns]⟩ : Shape).BroadcastsInDim ⟨4, ![B, C, 1, Ns]⟩ (![0, 1, 3] : Fin 3 → Fin 4)
  dropThird : (⟨4, ![B, C, 1, Ns]⟩ : Shape).ShapeCasts ⟨3, ![B, C, Ns]⟩
  gather : GatherDims.WF ⟨3, ![B, C, Ns]⟩ ⟨4, ![B, Nd, 16, 1]⟩ ⟨4, ![B, C, Nd, 16]⟩ [1] [2] [0] [2] [0] 3 ![1, C, 1]
  mask : (⟨3, ![B, Nd, 16]⟩ : Shape).BroadcastsInDim ⟨4, ![B, C, Nd, 16]⟩ (![0, 2, 3] : Fin 3 → Fin 4)
  fill : (⟨0, ![]⟩ : Shape).BroadcastsInDim ⟨4, ![B, C, Nd, 16]⟩ (![] : Fin 0 → Fin 4)
  weights : (⟨4, ![B, 1, Nd, 16]⟩ : Shape).BroadcastsInDim ⟨4, ![B, C, Nd, 16]⟩ (![0, 1, 2, 3] : Fin 4 → Fin 4)
  sum : (⟨4, ![B, C, Nd, 16]⟩ : Shape).ReducesTo [3] ⟨3, ![B, C, Nd]⟩

/-- The listed positions with a second axis of one. -/
def listed (L : GatherFacts B C Nd Ns) (p : IVec ⟨3, ![B, Nd, 16]⟩ 32) : IVec ⟨4, ![B, 1, Nd, 16]⟩ 32 :=
  broadcastInDim ⟨4, ![B, 1, Nd, 16]⟩ ![0, 2, 3] L.second p

/-- The positions the gather reads: those below zero counted from the end, which none is. -/
def positions (L : GatherFacts B C Nd Ns) (p : IVec ⟨3, ![B, Nd, 16]⟩ 32) : IVec ⟨4, ![B, Nd, 16, 1]⟩ 32 :=
  shapeCast ⟨4, ![B, Nd, 16, 1]⟩ (select
    (cmpi .slt (listed L p) (broadcastInDim ⟨4, ![B, 1, Nd, 16]⟩ ![] L.fillSecond (constantI ⟨0, ![]⟩ 32 0#32)))
    (addi (listed L p)
      (broadcastInDim ⟨4, ![B, 1, Nd, 16]⟩ ![] L.fillSecond (constantI ⟨0, ![]⟩ 32 (BitVec.ofNat 32 Ns))))
    (listed L p)) L.toEnd

/-- Where the position is in range. -/
def inRange (L : GatherFacts B C Nd Ns) (p : IVec ⟨3, ![B, Nd, 16]⟩ 32) : IVec ⟨3, ![B, Nd, 16]⟩ 1 :=
  Host.reduce IntOp.andi (andi
    (cmpi .sge (positions L p) (broadcastInDim ⟨4, ![B, Nd, 16, 1]⟩ ![] L.fillEnd (constantI ⟨0, ![]⟩ 32 0#32)))
    (cmpi .sle (positions L p) (broadcastInDim ⟨4, ![B, Nd, 16, 1]⟩ ![0, 1, 2, 3] L.ones
      (broadcastInDim ⟨4, ![1, 1, 1, 1]⟩ ![3] L.one (constantI ⟨1, ![1]⟩ 32 (BitVec.ofNat 32 (Ns - 1)))))))
    (constantI ⟨0, ![]⟩ 1 1#1) L.all L.pos

/-- The features at the listed positions. -/
def gathered (L : GatherFacts B C Nd Ns) (p : IVec ⟨3, ![B, Nd, 16]⟩ 32) (f : Bat B C Ns) :
    FVec Ideal ⟨4, ![B, C, Nd, 16]⟩ .f32 :=
  select (broadcastInDim ⟨4, ![B, C, Nd, 16]⟩ ![0, 2, 3] L.mask (inRange L p))
    (Host.gather (alongDims L.gather) (shapeCast ⟨3, ![B, C, Ns]⟩
      (broadcastInDim ⟨4, ![B, C, 1, Ns]⟩ ![0, 1, 3] L.third f) L.dropThird) (positions L p))
    (broadcastInDim ⟨4, ![B, C, Nd, 16]⟩ ![] L.fill (scalar 0x7FC00000#32))

/-- The interpolated features: the gathered features times their weights, summed over the sixteen. -/
def interpolated (L : GatherFacts B C Nd Ns) (p : IVec ⟨3, ![B, Nd, 16]⟩ 32) (f : Bat B C Ns) (w : Bat B Nd 16) :
    Bat B C Nd :=
  Host.reduceAdd (mulf (gathered L p f) (broadcastInDim ⟨4, ![B, C, Nd, 16]⟩ ![0, 1, 2, 3] L.weights
    (broadcastInDim ⟨4, ![B, 1, Nd, 16]⟩ ![0, 2, 3] L.second w))) (scalar 0x00000000#32) L.sum L.pos

variable (L : GatherFacts B C Nd Ns) (p : IVec ⟨3, ![B, Nd, 16]⟩ 32) (q : Fin B → Fin Nd → Fin 16 → Fin Ns)

/-- A position below a bound of 31 bits is its word, signed. -/
theorem word_toInt (hN : Ns < 2 ^ 31) (s : Fin Ns) : (BitVec.ofNat 32 s.val).toInt = s.val := by
  have := s.isLt
  rw [BitVec.toInt_eq_toNat_of_lt] <;> rw [BitVec.toNat_ofNat] <;> omega

/-- The gather reads the listed positions as they stand. -/
theorem positions_at (hN : Ns < 2 ^ 31) (hp : ∀ b i k, p (ix3 b i k) = BitVec.ofNat 32 (q b i k).val) (b : Fin B)
    (i : Fin Nd) (k : Fin 16) (z : Fin 1) : positions L p (ix4 b i k z) = BitVec.ofNat 32 (q b i k).val := by
  refine (second_to_end ..).trans ?_
  have h1 : listed L p (ix4 b 0 i k) = BitVec.ofNat 32 (q b i k).val := (repeat_023 ..).trans (hp b i k)
  have h2 : IntOp.cmpi .slt (listed L p (ix4 b 0 i k)) 0#32 = 0#1 := by
    have h3 : ((q b i k).val : Int) ≥ 0 := Int.natCast_nonneg _
    rw [h1]
    simp only [IntOp.cmpi, BitVec.slt, word_toInt hN, BitVec.toInt_zero, not_lt.mpr h3, decide_false]
    rfl
  show Scalar.select (IntOp.cmpi .slt (listed L p (ix4 b 0 i k)) 0#32) _ (listed L p (ix4 b 0 i k)) = _
  rw [h2, h1]
  rfl

/-- Every listed position is in range. -/
theorem inRange_at (hN : Ns < 2 ^ 31) (hp : ∀ b i k, p (ix3 b i k) = BitVec.ofNat 32 (q b i k).val)
    (j : (⟨3, ![B, Nd, 16]⟩ : Shape).Idx) : inRange L p j = 1#1 := by
  refine Host.reduce_andi_one _ _ _ _ _ rfl fun y => ?_
  obtain ⟨b, i, k, z, rfl⟩ : ∃ b i k z, y = ix4 b i k z := ⟨y 0, y 1, y 2, y 3, by
    funext a; match a with | ⟨0, _⟩ => rfl | ⟨1, _⟩ => rfl | ⟨2, _⟩ => rfl | ⟨3, _⟩ => rfl⟩
  show IntOp.andi (IntOp.cmpi .sge (positions L p (ix4 b i k z)) 0#32)
    (IntOp.cmpi .sle (positions L p (ix4 b i k z)) (BitVec.ofNat 32 (Ns - 1))) = 1#1
  have h0 : 0 < Ns := Nat.lt_of_le_of_lt (Nat.zero_le _) (q b i k).isLt
  have h1 : (0 : Int) ≤ (q b i k).val := Int.natCast_nonneg _
  have h2 : ((q b i k).val : Int) ≤ (Ns - 1 : Nat) := Int.ofNat_le.mpr (Nat.le_sub_one_of_lt (q b i k).isLt)
  have h3 : (BitVec.ofNat 32 (Ns - 1)).toInt = (Ns - 1 : Nat) := word_toInt hN ⟨Ns - 1, Nat.sub_one_lt_of_lt h0⟩
  rw [positions_at L p q hN hp]
  simp only [IntOp.cmpi, BitVec.sle, word_toInt hN, BitVec.toInt_zero, h3, h1, h2, decide_true]
  rfl

/-- A gathered entry is the feature at the listed position. -/
theorem gathered_at (hN : Ns < 2 ^ 31) (hp : ∀ b i k, p (ix3 b i k) = BitVec.ofNat 32 (q b i k).val) (f : Bat B C Ns)
    (b : Fin B) (c : Fin C) (i : Fin Nd) (k : Fin 16) :
    gathered L p f (ix4 b c i k) = f (ix3 b c (q b i k)) := by
  have h1 : broadcastInDim ⟨4, ![B, C, Nd, 16]⟩ ![0, 2, 3] L.mask (inRange L p) (ix4 b c i k) = 1#1 :=
    (repeat_023 ..).trans (inRange_at L p q hN hp _)
  refine (congrArg (Scalar.select · _ _) h1).trans ((if_pos rfl).trans ?_)
  refine (gather_along L.gather _ _ b c i k (q b i k) ?_).trans ((drop_third ..).trans (repeat_013 L.third f b c 0 _))
  rw [positions_at L p q hN hp, word_toInt hN]

/-- Entry (b, c, i) is the sum, over the sixteen listed positions, of the feature there times its weight. -/
theorem interpolated_at (hN : Ns < 2 ^ 31) (hp : ∀ b i k, p (ix3 b i k) = BitVec.ofNat 32 (q b i k).val)
    (f : Bat B C Ns) (w : Bat B Nd 16) (b : Fin B) (c : Fin C) (i : Fin Nd) :
    interpolated L p f w (ix3 b c i) = ∑ k, f (ix3 b c (q b i k)) * w (ix3 b i k) :=
  (sum_fourth ..).trans (Finset.sum_congr rfl fun k _ => congrArg₂ (· * ·) (gathered_at L p q hN hp f b c i k)
    ((repeat_second ..).trans (repeat_023 ..)))

end features

end Cert.Deconv

end
-- ==== Proof.LevelSorted.lean ====
/-
  One level of the reference put together from its stages, for any sizes, and read: it is the level with the nearest
  points picked by the sorted listing. What `top_k` lists, the values and the positions, enters here once for both levels.
-/
module

public import proofs.«01_k».proof.Proof.Level

@[expose] public section

noncomputable section

namespace Cert.Deconv

open Idealize.ShloMosaic

variable {B Nd Ns C H O : Nat}

/-- The shape relations a whole level rests on. -/
structure LevelFacts (B Nd Ns C H O : Nat) : Prop where
  dist : DistFacts B Nd Ns
  head : (⟨3, ![B, Nd, Ns]⟩ : Shape).Slices (fun _ => 0) ⟨3, ![B, Nd, 16]⟩
  weight : WeightFacts B Nd
  gather : GatherFacts B C Nd Ns
  first : LayerFacts B C H Nd
  second : LayerFacts B H O Nd

/-- The listing of the sixteen nearest sparse points: their negated distances, and their positions. -/
abbrev listing (L : LevelFacts B Nd Ns C H O) (dx : Bat B 3 Nd) (sx : Bat B 3 Ns) :
    Bat B Nd 16 × IVec ⟨3, ![B, Nd, 16]⟩ 32 :=
  Host.topK ⟨3, ![B, Nd, 16]⟩ 2 (FloatOps.cmpfTotal (F := Ideal) (φ := .f32) .gt) (negDist L.dist dx sx) L.head

/-- One level: interpolate the sparse features `f`, add the dense ones, and apply the two layers. -/
def level (L : LevelFacts B Nd Ns C H O) (w : BitVec 32) (sx : Bat B 3 Ns) (f : Bat B C Ns) (dx : Bat B 3 Nd)
    (dp : Bat B C Nd) (W : Mat H C) (v : Row H) (W' : Mat O H) (v' : Row O) : Bat B O Nd :=
  layers L.second (layers L.first
    (addf (interpolated L.gather (listing L dx sx).2 f (weights L.weight w (listing L dx sx).1)) dp) W v) W' v'

variable (L : LevelFacts B Nd Ns C H O) (w : BitVec 32) (r : EReal) (hr : Rate w r) (hn : 16 ≤ Ns) (sx : Bat B 3 Ns)
  (f : Bat B C Ns) (dx : Bat B 3 Nd) (dp : Bat B C Nd) (W : Mat H C) (v : Row H) (W' : Mat O H) (v' : Row O)

/-- The position of the `k`-th nearest sparse point. -/
abbrev place (b : Fin B) (i : Fin Nd) (k : Fin 16) : Fin Ns :=
  nearest (dists (batch sx b) (batch dx b) i) (k.castLE hn)

/-- The `k`-th listed value is the negated distance to the `k`-th nearest sparse point. -/
theorem listing_values (b : Fin B) (i : Fin Nd) (k : Fin 16) :
    (listing L dx sx).1 (ix3 b i k) = -dists (batch sx b) (batch dx b) i (place hn sx dx b i k) := by
  rw [listing, topK_values hn, fibre_negDist]
  rfl

/-- The `k`-th listed position is the position of the `k`-th nearest sparse point. -/
theorem listing_positions (b : Fin B) (i : Fin Nd) (k : Fin 16) :
    (listing L dx sx).2 (ix3 b i k) = BitVec.ofNat 32 (place hn sx dx b i k).val := by
  rw [listing, topK_indices hn, fibre_negDist]
  rfl

include hr in
/-- The level is the one with the nearest points picked by the sorted listing. -/
theorem level_at (hN : Ns < 2 ^ 31) (b : Fin B) (o : Fin O) (i : Fin Nd) :
    level L w sx f dx dp W v W' v' (ix3 b o i)
      = deconvSorted r (batch sx b) (batch f b) (batch dx b) (batch dp b) (entry W) (item v) (entry W') (item v') hn o i := by
  unfold level deconvSorted
  rw [layers_at]
  congr 1
  funext h
  rw [layers_at]
  congr 1
  funext c
  refine congrArg (· + dp (ix3 b c i)) ((interpolated_at L.gather _ (place hn sx dx) hN
    (listing_positions L hn sx dx) f _ b c i).trans (Finset.sum_congr rfl fun k _ => congrArg (f _ * ·) ?_))
  exact weights_at L.weight w r hr _ b i _ (listing_values L hn sx dx b i) k

end Cert.Deconv

end
-- ==== Proof.Reference.lean ====
/-
  The reference's result: its composed term is two levels, of which level A's output feeds level B, and so it is the
  network with the nearest points picked by the sorted listing.
-/
module

public import proofs.«01_k».proof.Proof.LevelSorted
public import proofs.«01_k».proof.Proof.Gen.ReferenceIdeal.Run

@[expose] public section

set_option maxRecDepth 16384

noncomputable section

namespace Cert.ReferenceIdeal.Final

open Cert.ReferenceIdeal Cert.ReferenceIdeal.Facts₀ Cert.Deconv
open Idealize.ShloMosaic Idealize.ShloMosaic.TcCoe Idealize.SL.Sem

/-- Level A's shape relations: 256 dense points, 64 sparse ones, 512 features throughout. -/
theorem factsA : LevelFacts 8 256 64 512 512 512 where
  dist := ⟨h_S_, reducesTo_S8x3x256_S8x256_d1, reducesTo_S8x3x64_S8x64_d1, bcast_S8x256_S8x256x1_0_1,
    bcast_S8x64_S8x1x64_0_2, bcast_S8x256x1_S8x256x64_0_1_2, bcast_S8x1x64_S8x256x64_0_1_2, bcast_S_S8x256x64,
    dot_S8x3x256_S8x3x64_S8x256x64_1_1_2_2_0_0_wf⟩
  head := sliceFits_S8x256x64_S8x256x16
  weight := ⟨h_S_, bcast_S_S8x256x16, reducesTo_S8x256x16_S8x256_d2, bcast_S8x256_S8x256x1_0_1, bcast_S_S8x256x1,
    bcast_S8x256x1_S8x256x16_0_1_2⟩
  gather := ⟨h_S_, bcast_S8x256x16_S8x1x256x16_0_2_3, bcast_S_S8x1x256x16, shapeCasts_S8x1x256x16_S8x256x16x1,
    bcast_S_S8x256x16x1, bcast_S1_S1x1x1x1_3, bcast_S1x1x1x1_S8x256x16x1_0_1_2_3, reducesTo_S8x256x16x1_S8x256x16_d3,
    bcast_S8x512x64_S8x512x1x64_0_1_3, shapeCasts_S8x512x1x64_S8x512x64,
    gather_S8x512x64_S8x256x16x1_S8x512x256x16_1_2_0_0_2_3_15121_wf, bcast_S8x256x16_S8x512x256x16_0_2_3,
    bcast_S_S8x512x256x16, bcast_S8x1x256x16_S8x512x256x16_0_1_2_3, reducesTo_S8x512x256x16_S8x512x256_d3⟩
  first := ⟨dot_S8x512x256_S512x512_S8x256x512_1_1_02_0_n_n_wf, transposes_S8x256x512_S8x512x256_0_2_1,
    bcast_S512_S1x512x1_1, bcast_S1x512x1_S8x512x256_0_1_2, bcast_S_S8x512x256⟩
  second := ⟨dot_S8x512x256_S512x512_S8x256x512_1_1_02_0_n_n_wf, transposes_S8x256x512_S8x512x256_0_2_1,
    bcast_S512_S1x512x1_1, bcast_S1x512x1_S8x512x256_0_1_2, bcast_S_S8x512x256⟩

/-- Level B's shape relations: 1024 dense points, 256 sparse ones, 512 features in and 256 out. -/
theorem factsB : LevelFacts 8 1024 256 512 256 256 where
  dist := ⟨h_S_, reducesTo_S8x3x1024_S8x1024_d1, reducesTo_S8x3x256_S8x256_d1, bcast_S8x1024_S8x1024x1_0_1,
    bcast_S8x256_S8x1x256_0_2, bcast_S8x1024x1_S8x1024x256_0_1_2, bcast_S8x1x256_S8x1024x256_0_1_2,
    bcast_S_S8x1024x256, dot_S8x3x1024_S8x3x256_S8x1024x256_1_1_2_2_0_0_wf⟩
  head := sliceFits_S8x1024x256_S8x1024x16
  weight := ⟨h_S_, bcast_S_S8x1024x16, reducesTo_S8x1024x16_S8x1024_d2, bcast_S8x1024_S8x1024x1_0_1,
    bcast_S_S8x1024x1, bcast_S8x1024x1_S8x1024x16_0_1_2⟩
  gather := ⟨h_S_, bcast_S8x1024x16_S8x1x1024x16_0_2_3, bcast_S_S8x1x1024x16, shapeCasts_S8x1x1024x16_S8x1024x16x1,
    bcast_S_S8x1024x16x1, bcast_S1_S1x1x1x1_3, bcast_S1x1x1x1_S8x1024x16x1_0_1_2_3,
    reducesTo_S8x1024x16x1_S8x1024x16_d3, bcast_S8x512x256_S8x512x1x256_0_1_3, shapeCasts_S8x512x1x256_S8x512x256,
    gather_S8x512x256_S8x1024x16x1_S8x512x1024x16_1_2_0_0_2_3_15121_wf, bcast_S8x1024x16_S8x512x1024x16_0_2_3,
    bcast_S_S8x512x1024x16, bcast_S8x1x1024x16_S8x512x1024x16_0_1_2_3, reducesTo_S8x512x1024x16_S8x512x1024_d3⟩
  first := ⟨dot_S8x512x1024_S256x512_S8x1024x256_1_1_02_0_n_n_wf, transposes_S8x1024x256_S8x256x1024_0_2_1,
    bcast_S256_S1x256x1_1, bcast_S1x256x1_S8x256x1024_0_1_2, bcast_S_S8x256x1024⟩
  second := ⟨dot_S8x256x1024_S256x256_S8x1024x256_1_1_02_0_n_n_wf, transposes_S8x1024x256_S8x256x1024_0_2_1,
    bcast_S256_S1x256x1_1, bcast_S1x256x1_S8x256x1024_0_1_2, bcast_S_S8x256x1024⟩

/-- Level A's bandwidth is 8/20: its exponent has the factor -25/8. -/
theorem rate_A : Rate 0x41000000#32 rateA :=
  rate_of _ _ 8 (by norm_num) eight_f32 (rateA_f32.trans (by norm_num))

/-- Level B's bandwidth is 4/20: its exponent has the factor -25/2. -/
theorem rate_B : Rate 0x40800000#32 rateB :=
  rate_of _ _ 4 (by norm_num) four_f32 (rateB_f32.trans (by norm_num))

variable (m : (ℓ : Loc nD τ sig) → Buf (Elt Ideal) ℓ) (c : Dev nD)

/-- Level A's output array. -/
def outA : Bat 8 512 256 :=
  level factsA 0x41000000#32 (m ((c.tc : Thread nD τ).loc main_arg6)) (m ((c.tc : Thread nD τ).loc main_arg7))
    (m ((c.tc : Thread nD τ).loc main_arg4)) (m ((c.tc : Thread nD τ).loc main_arg5))
    (m ((c.tc : Thread nD τ).loc main_arg8)) (m ((c.tc : Thread nD τ).loc main_arg9))
    (m ((c.tc : Thread nD τ).loc main_arg10)) (m ((c.tc : Thread nD τ).loc main_arg11))

/-- Level B's output array. -/
def outB : Bat 8 256 1024 :=
  level factsB 0x40800000#32 (m ((c.tc : Thread nD τ).loc main_arg4)) (outA m c)
    (m ((c.tc : Thread nD τ).loc main_arg2)) (m ((c.tc : Thread nD τ).loc main_arg3))
    (m ((c.tc : Thread nD τ).loc main_arg12)) (m ((c.tc : Thread nD τ).loc main_arg13))
    (m ((c.tc : Thread nD τ).loc main_arg14)) (m ((c.tc : Thread nD τ).loc main_arg15))

/-- The composed term is those two levels. -/
theorem term_eq : Value.res_main_v100 m c = outB m c := by
  rfl

/-- Entry (b, o, i) of the reference's result. -/
theorem result_at (b : Fin 8) (o : Fin 256) (i : Fin 1024) :
    outB m c (ix3 b o i) = levelSortedB (m ((c.tc : Thread nD τ).loc main_arg2)) (m ((c.tc : Thread nD τ).loc main_arg3))
      (m ((c.tc : Thread nD τ).loc main_arg4)) (m ((c.tc : Thread nD τ).loc main_arg12))
      (m ((c.tc : Thread nD τ).loc main_arg13)) (m ((c.tc : Thread nD τ).loc main_arg14))
      (m ((c.tc : Thread nD τ).loc main_arg15))
      (levelSortedA (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11)) b) b o i := by
  have hA : batch (outA m c) b = levelSortedA (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) b :=
    funext fun h => funext fun s => level_at factsA _ _ rate_A (by norm_num) _ _ _ _ _ _ _ _ (by norm_num) b h s
  rw [← hA]
  exact level_at factsB _ _ rate_B (by norm_num) _ _ _ _ _ _ _ _ (by norm_num) b o i

end Cert.ReferenceIdeal.Final

end
-- ==== Proof.Precondition.lean ====
/-
  What the precondition says: at both levels, from every dense point the seventeen nearest distances strictly increase.
-/
module

public import proofs.«01_k».proof.Proof.Level
public import proofs.«01_k».proof.Proof.Gen.Pre_nearest_distances_differ
public import Idealize.ShloMosaic.Lib.ReduceAll

@[expose] public section

set_option maxRecDepth 16384

noncomputable section

namespace Cert.Deconv

open Idealize.ShloMosaic

variable {B Nd Ns : Nat}

/-- The shape relations one level's condition rests on. -/
structure OrderFacts (B Nd Ns : Nat) : Prop where
  dist : DistFacts B Nd Ns
  head : (⟨3, ![B, Nd, Ns]⟩ : Shape).Slices (fun _ => 0) ⟨3, ![B, Nd, 17]⟩
  later : (⟨3, ![B, Nd, 17]⟩ : Shape).Slices ![0, 0, 1] ⟨3, ![B, Nd, 16]⟩
  earlier : (⟨3, ![B, Nd, 17]⟩ : Shape).Slices ![0, 0, 0] ⟨3, ![B, Nd, 16]⟩
  all : (⟨3, ![B, Nd, 16]⟩ : Shape).ReducesTo [0, 1, 2] ⟨0, ![]⟩

/-- The seventeen greatest negated distances, greatest first. -/
def greatest (L : OrderFacts B Nd Ns) (dx : Bat B 3 Nd) (sx : Bat B 3 Ns) : Bat B Nd 17 :=
  (Host.topK ⟨3, ![B, Nd, 17]⟩ 2 (FloatOps.cmpfTotal (F := Ideal) (φ := .f32) .gt) (negDist L.dist dx sx) L.head).1

/-- Whether each of them is below the one before it, for every dense point. -/
def descending (L : OrderFacts B Nd Ns) (dx : Bat B 3 Nd) (sx : Bat B 3 Ns) : IVec ⟨0, ![]⟩ 1 :=
  Host.reduce IntOp.andi (cmpf .olt
    (extractStridedSlice ⟨3, ![B, Nd, 16]⟩ ![0, 0, 1] (greatest L dx sx) L.later)
    (extractStridedSlice ⟨3, ![B, Nd, 16]⟩ ![0, 0, 0] (greatest L dx sx) L.earlier))
    (constantI ⟨0, ![]⟩ 1 1#1) L.all L.dist.pos

/-- The `k`-th of them is the negated distance to the `k`-th nearest sparse point. -/
theorem greatest_at (L : OrderFacts B Nd Ns) (hn : 17 ≤ Ns) (dx : Bat B 3 Nd) (sx : Bat B 3 Ns) (b : Fin B) (i : Fin Nd)
    (k : Fin 17) : greatest L dx sx (ix3 b i k)
      = -dists (batch sx b) (batch dx b) i (nearest (dists (batch sx b) (batch dx b) i) (k.castLE hn)) := by
  rw [greatest, topK_values hn, fibre_negDist]
  rfl

/-- The slice from the first entry on reads entry `k`. -/
theorem earlier_at (x : Bat B Nd 17) (h) (b : Fin B) (i : Fin Nd) (k : Fin 16) :
    extractStridedSlice ⟨3, ![B, Nd, 16]⟩ ![0, 0, 0] x h (ix3 b i k) = x (ix3 b i k.castSucc) := by
  refine congrArg x (funext fun a => Fin.ext ?_)
  match a with
  | ⟨0, _⟩ => exact Nat.zero_add _
  | ⟨1, _⟩ => exact Nat.zero_add _
  | ⟨2, _⟩ => exact Nat.zero_add _

/-- The slice from the second entry on reads entry `k + 1`. -/
theorem later_at (x : Bat B Nd 17) (h) (b : Fin B) (i : Fin Nd) (k : Fin 16) :
    extractStridedSlice ⟨3, ![B, Nd, 16]⟩ ![0, 0, 1] x h (ix3 b i k) = x (ix3 b i k.succ) := by
  refine congrArg x (funext fun a => Fin.ext ?_)
  match a with
  | ⟨0, _⟩ => exact Nat.zero_add _
  | ⟨1, _⟩ => exact Nat.zero_add _
  | ⟨2, _⟩ => exact Nat.add_comm _ _

/-- Where the test passes, the seventeen nearest distances strictly increase. -/
theorem distinct_of_descending (L : OrderFacts B Nd Ns) (hn : 17 ≤ Ns) (dx : Bat B 3 Nd) (sx : Bat B 3 Ns)
    (j : (⟨0, ![]⟩ : Shape).Idx) (h : descending L dx sx j = 1#1) (b : Fin B) (i : Fin Nd) :
    Distinct (dists (batch sx b) (batch dx b) i) hn := by
  intro k
  have : Subsingleton (⟨0, ![]⟩ : Shape).Idx := ⟨fun p q => funext fun a => a.elim0⟩
  have h1 := Host.reduce_andi_all _ _ _ _ j h (ix3 b i k)
  have h2 : BitVec.ofBool (decide (
      extractStridedSlice ⟨3, ![B, Nd, 16]⟩ ![0, 0, 1] (greatest L dx sx) L.later (ix3 b i k)
        < extractStridedSlice ⟨3, ![B, Nd, 16]⟩ ![0, 0, 0] (greatest L dx sx) L.earlier (ix3 b i k))) = 1#1 := h1
  rw [later_at, earlier_at, greatest_at L hn, greatest_at L hn] at h2
  refine EReal.neg_lt_neg_iff.1 ?_
  by_contra hlt
  rw [decide_eq_false hlt] at h2
  exact absurd h2 (by decide)

end Cert.Deconv

namespace Cert.Pre_nearest_distances_differ

open Cert.Pre_nearest_distances_differ.Facts Cert.Deconv
open Idealize.ShloMosaic

/-- Level A's shape relations. -/
theorem orderA : OrderFacts 8 256 64 where
  dist := ⟨h_S_, reducesTo_S8x3x256_S8x256_d1, reducesTo_S8x3x64_S8x64_d1, bcast_S8x256_S8x256x1_0_1,
    bcast_S8x64_S8x1x64_0_2, bcast_S8x256x1_S8x256x64_0_1_2, bcast_S8x1x64_S8x256x64_0_1_2, bcast_S_S8x256x64,
    dot_S8x3x256_S8x3x64_S8x256x64_1_1_2_2_0_0_wf⟩
  head := sliceFits_S8x256x64_S8x256x17
  later := slices_S8x256x17_S8x256x16_0_0_1
  earlier := slices_S8x256x17_S8x256x16_0_0_0
  all := reducesTo_S8x256x16_S_d0_1_2

/-- Level B's shape relations. -/
theorem orderB : OrderFacts 8 1024 256 where
  dist := ⟨h_S_, reducesTo_S8x3x1024_S8x1024_d1, reducesTo_S8x3x256_S8x256_d1, bcast_S8x1024_S8x1024x1_0_1,
    bcast_S8x256_S8x1x256_0_2, bcast_S8x1024x1_S8x1024x256_0_1_2, bcast_S8x1x256_S8x1024x256_0_1_2,
    bcast_S_S8x1024x256, dot_S8x3x1024_S8x3x256_S8x1024x256_1_1_2_2_0_0_wf⟩
  head := sliceFits_S8x1024x256_S8x1024x17
  later := slices_S8x1024x17_S8x1024x16_0_0_1
  earlier := slices_S8x1024x17_S8x1024x16_0_0_0
  all := reducesTo_S8x1024x16_S_d0_1_2

variable (x0 : FVec Ideal S8x3x4096 .f32) (x1 : FVec Ideal S8x128x4096 .f32) (x2 : FVec Ideal S8x3x1024 .f32)
  (x3 : FVec Ideal S8x512x1024 .f32) (x4 : FVec Ideal S8x3x256 .f32) (x5 : FVec Ideal S8x512x256 .f32)
  (x6 : FVec Ideal S8x3x64 .f32) (x7 : FVec Ideal S8x512x64 .f32) (x8 : FVec Ideal S512x512 .f32)
  (x9 : FVec Ideal S512 .f32) (x10 : FVec Ideal S512x512 .f32) (x11 : FVec Ideal S512 .f32)
  (x12 : FVec Ideal S256x512 .f32) (x13 : FVec Ideal S256 .f32) (x14 : FVec Ideal S256x256 .f32)
  (x15 : FVec Ideal S256 .f32)

/-- The precondition is both levels' tests. -/
theorem fn_eq : fn (F := Ideal) x0 x1 x2 x3 x4 x5 x6 x7 x8 x9 x10 x11 x12 x13 x14 x15
    = andi (descending orderA x4 x6) (descending orderB x2 x4) := rfl

/-- Under it, at both levels and from every dense point, the seventeen nearest distances strictly increase. -/
theorem distinct (j : S_.Idx)
    (h : fn (F := Ideal) x0 x1 x2 x3 x4 x5 x6 x7 x8 x9 x10 x11 x12 x13 x14 x15 j = 1#1) :
    (∀ b i, Distinct (dists (batch x6 b) (batch x4 b) i) (by norm_num : 17 ≤ 64))
      ∧ ∀ b i, Distinct (dists (batch x4 b) (batch x2 b) i) (by norm_num : 17 ≤ 256) := by
  rw [fn_eq] at h
  obtain ⟨hA, hB⟩ := IntOp.andi_eq_one.1 h
  exact ⟨distinct_of_descending orderA _ x4 x6 j hA, distinct_of_descending orderB _ x2 x4 j hB⟩

end Cert.Pre_nearest_distances_differ

end
-- ==== Proof.lean ====
/-
  The five claims: the three programs run with their arguments unchanged, the idealized kernel is the kernel, and the
  idealized kernel and the idealized reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nearest_distances_differ
public import proofs.«01_k».proof.Proof.Gen.KernelIdeal.Value
public import proofs.«01_k».proof.Proof.Gen.ReferenceIdeal.Run
public import proofs.«01_k».proof.Proof.Final
public import proofs.«01_k».proof.Proof.Reference
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Deconv

/-- The reference runs, and its arguments end unchanged. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel and the idealized reference end with the same array, from equal arguments whose seventeen
    nearest distances differ at both levels: the kernel's is the network with the nearest points picked by threshold,
    the reference's the one with them picked by the sorted listing. -/
theorem equal_results : Cert.algebraic_KernelIdeal_ReferenceIdeal_pre_nearest_distances_differ := by
  intro m ρ m' ρ' hpre hagree
  refine ⟨fun c => Cert.KernelIdeal.Final.result m c,
    (θ_run Cert.KernelIdeal.defs _ _).mono (fun _ h c => ⟨(h c).1.trans (Cert.KernelIdeal.Final.final m c), (h c).2⟩)
      (Cert.KernelIdeal.Value.run_blocks m ρ),
    (θ_run Cert.ReferenceIdeal.defs _ _).mono (fun _ h c => ⟨(h c).1.trans ?_, (h c).2⟩)
      (Cert.ReferenceIdeal.Value.run (F := Ideal) m' ρ')⟩
  obtain ⟨hA, hB⟩ := Cert.Pre_nearest_distances_differ.distinct _ _ _ _ _ _ _ _ _ _ _ _ _ _ _ _
    (fun a => a.elim0) (congrFun (hpre c) _)
  obtain ⟨-, -, h2, h3, h4, h5, h6, h7, h8, h9, h10, h11, h12, h13, h14, h15⟩ := hagree c
  rw [Cert.ReferenceIdeal.Final.term_eq]
  funext j
  refine (congrArg (Cert.ReferenceIdeal.Final.outB m' c) (ix3_eta j).symm).trans ?_
  refine (Cert.ReferenceIdeal.Final.result_at m' c (j 0) (j 1) (j 2)).trans ?_
  rw [h2, h3, h4, h5, h6, h7, h8, h9, h10, h11, h12, h13, h14, h15]
  exact (congrFun (congrFun (network_eq _ _ _ _ _ _ _ _ _ _ _ _ _ _ hA hB (j 0)) (j 1)) (j 2)).symm

/-- The certificate: all five claims. -/
theorem claim : Cert.Claim :=
  ⟨Cert.Kernel.Gen.facts, Cert.KernelIdeal.Gen.facts, Cert.ReferenceIdeal.Gen.facts,
    Cert.Pre_nearest_distances_differ.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, equal_results⟩

end Cert.Proof

end
